-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_rows_in_range : Cert.Pre_rows_in_range.Facts] (m : (ℓ : Loc Cert.Kernel8.nD Cert.Kernel8.τ Cert.Kernel8.sig) → Buf (Elt Bits) ℓ) : Prop :=
  ∀ c : Dev Cert.Kernel8.nD,
    (Cert.Pre_rows_in_range.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6)) (m ((c.tc : Thread Cert.Kernel8.nD Cert.Kernel8.τ).loc Cert.Kernel8.main_arg7))).1 = (fun _ => 1#1)
    ∧ (Cert.Pre_rows_in_range.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6)) (m ((c.tc : Thread Cert.Kernel8.nD Cert.Kernel8.τ).loc Cert.Kernel8.main_arg7))).2 = (fun _ => 1#1)

def Pre_Kernel8Ideal [hPre_rows_in_range : Cert.Pre_rows_in_range.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_rows_in_range.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_rows_in_range.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2 = (fun _ => 1#1)

def Pre_Kernel8Ideal_rows_in_range_finite [hPre_rows_in_range_finite : Cert.Pre_rows_in_range_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_rows_in_range_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_rows_in_range_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_rows_in_range_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_rows_in_range_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.1 = (fun _ => 1#1)
    ∧ (Cert.Pre_rows_in_range_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2 = (fun _ => 1#1)

def Pre_Reference8Ideal [hPre_rows_in_range : Cert.Pre_rows_in_range.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_rows_in_range.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_rows_in_range.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2 = (fun _ => 1#1)

def Pre_Reference8Ideal_rows_in_range_finite [hPre_rows_in_range_finite : Cert.Pre_rows_in_range_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_rows_in_range_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_rows_in_range_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_rows_in_range_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_rows_in_range_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.1 = (fun _ => 1#1)
    ∧ (Cert.Pre_rows_in_range_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] [hPre_rows_in_range : Cert.Pre_rows_in_range.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] [hPre_rows_in_range : Cert.Pre_rows_in_range.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_rows_in_range_finite [hKernel8Ideal : Cert.Kernel8Ideal.Facts] [hPre_rows_in_range_finite : Cert.Pre_rows_in_range_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_rows_in_range_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] [hPre_rows_in_range : Cert.Pre_rows_in_range.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_rows_in_range_finite [hReference8Ideal : Cert.Reference8Ideal.Facts] [hPre_rows_in_range_finite : Cert.Pre_rows_in_range_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_rows_in_range_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v7) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v5)) (v2 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_v7) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)) (v1 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v83) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_rows_in_range_finite [hKernel8Ideal : Cert.Kernel8Ideal.Facts] [hReference8Ideal : Cert.Reference8Ideal.Facts] [hPre_rows_in_range_finite : Cert.Pre_rows_in_range_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_rows_in_range_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_rows_in_range : Cert.Pre_rows_in_range.Facts) (hPre_rows_in_range_finite : Cert.Pre_rows_in_range_finite.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_rows_in_range := hPre_rows_in_range)
    ∧ quiescent_Kernel8Ideal (hKernel8Ideal := hKernel8Ideal) (hPre_rows_in_range := hPre_rows_in_range)
    ∧ quiescent_Kernel8Ideal_pre_rows_in_range_finite (hKernel8Ideal := hKernel8Ideal) (hPre_rows_in_range_finite := hPre_rows_in_range_finite)
    ∧ quiescent_Reference8Ideal (hReference8Ideal := hReference8Ideal) (hPre_rows_in_range := hPre_rows_in_range)
    ∧ quiescent_Reference8Ideal_pre_rows_in_range_finite (hReference8Ideal := hReference8Ideal) (hPre_rows_in_range_finite := hPre_rows_in_range_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_rows_in_range_finite (hKernel8Ideal := hKernel8Ideal) (hReference8Ideal := hReference8Ideal) (hPre_rows_in_range_finite := hPre_rows_in_range_finite)
-- ==== Pre_rows_in_range.lean ====
abbrev S12288x4096 : Shape := ⟨2, ![12288, 4096]⟩
abbrev S65536 : Shape := ⟨1, ![65536]⟩
abbrev S128 : Shape := ⟨1, ![128]⟩
abbrev S1 : Shape := ⟨1, ![1]⟩
abbrev S1x32x4096x2048 : Shape := ⟨4, ![1, 32, 4096, 2048]⟩
abbrev S1x32x2048 : Shape := ⟨3, ![1, 32, 2048]⟩
abbrev S1x32x1024x4096 : Shape := ⟨4, ![1, 32, 1024, 4096]⟩
abbrev S1x32x4096 : Shape := ⟨3, ![1, 32, 4096]⟩
abbrev S_ : Shape := ⟨0, ![]⟩

class Facts : Prop where
  bcast_S_S65536 : S_.BroadcastsInDim S65536 (![] : Fin 0 → Fin S65536.rank)
  bcast_S_S128 : S_.BroadcastsInDim S128 (![] : Fin 0 → Fin S128.rank)

variable [Facts]

def fn {F : FTy → Type} [FloatOps F] (main_arg0 : FVec F S12288x4096 .f32) (main_arg1 : IVec S65536 32) (main_arg2 : IVec S128 32) (main_arg3 : IVec S1 32) (main_arg4 : FVec F S1x32x4096x2048 .f32) (main_arg5 : FVec F S1x32x2048 .f32) (main_arg6 : FVec F S1x32x1024x4096 .f32) (main_arg7 : FVec F S1x32x4096 .f32) : IVec S65536 1 × IVec S128 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 12288#32
  let main_v2 : IVec S65536 32 := broadcastInDim S65536 ![] bcast_S_S65536 main_c_0
  let main_v3 : IVec S65536 1 := cmpi .slt main_arg1 main_v2
  let main_v4 : IVec S65536 1 := andi main_v1 main_v3
  let main_c_1 : IVec S_ 32 := constantI S_ 32 0#32
  let main_v5 : IVec S128 32 := broadcastInDim S128 ![] bcast_S_S128 main_c_1
  let main_v6 : IVec S128 1 := cmpi .sge main_arg2 main_v5
  let main_c_2 : IVec S_ 32 := constantI S_ 32 32#32
  let main_v7 : IVec S128 32 := broadcastInDim S128 ![] bcast_S_S128 main_c_2
  let main_v8 : IVec S128 1 := cmpi .slt main_arg2 main_v7
  let main_v9 : IVec S128 1 := andi main_v6 main_v8
  (main_v4, main_v9)
-- ==== Pre_rows_in_range_finite.lean ====
abbrev S12288x4096 : Shape := ⟨2, ![12288, 4096]⟩
abbrev S65536 : Shape := ⟨1, ![65536]⟩
abbrev S128 : Shape := ⟨1, ![128]⟩
abbrev S1 : Shape := ⟨1, ![1]⟩
abbrev S1x32x4096x2048 : Shape := ⟨4, ![1, 32, 4096, 2048]⟩
abbrev S1x32x2048 : Shape := ⟨3, ![1, 32, 2048]⟩
abbrev S1x32x1024x4096 : Shape := ⟨4, ![1, 32, 1024, 4096]⟩
abbrev S1x32x4096 : Shape := ⟨3, ![1, 32, 4096]⟩
abbrev S_ : Shape := ⟨0, ![]⟩

class Facts : Prop where
  bcast_S_S65536 : S_.BroadcastsInDim S65536 (![] : Fin 0 → Fin S65536.rank)
  bcast_S_S128 : S_.BroadcastsInDim S128 (![] : Fin 0 → Fin S128.rank)
  bcast_S_S12288x4096 : S_.BroadcastsInDim S12288x4096 (![] : Fin 0 → Fin S12288x4096.rank)
  bcast_S_S1x32x4096x2048 : S_.BroadcastsInDim S1x32x4096x2048 (![] : Fin 0 → Fin S1x32x4096x2048.rank)
  bcast_S_S1x32x2048 : S_.BroadcastsInDim S1x32x2048 (![] : Fin 0 → Fin S1x32x2048.rank)

variable [Facts]

def fn_part1 {F : FTy → Type} [FloatOps F] (main_v4 : IVec S65536 1) (main_v9 : IVec S128 1) (main_v12 : IVec S12288x4096 1) (main_v15 : IVec S1x32x4096x2048 1) (main_v16 : FVec F S1x32x2048 .f32) (main_cst_4 : FVec F S_ .f32) : IVec S65536 1 × IVec S128 1 × IVec S12288x4096 1 × IVec S1x32x4096x2048 1 × IVec S1x32x2048 1 :=
  let main_v17 : FVec F S1x32x2048 .f32 := broadcastInDim S1x32x2048 ![] bcast_S_S1x32x2048 main_cst_4
  let main_v18 : IVec S1x32x2048 1 := cmpf .olt main_v16 main_v17
  (main_v4, main_v9, main_v12, main_v15, main_v18)

def fn {F : FTy → Type} [FloatOps F] (main_arg0 : FVec F S12288x4096 .f32) (main_arg1 : IVec S65536 32) (main_arg2 : IVec S128 32) (main_arg3 : IVec S1 32) (main_arg4 : FVec F S1x32x4096x2048 .f32) (main_arg5 : FVec F S1x32x2048 .f32) (main_arg6 : FVec F S1x32x1024x4096 .f32) (main_arg7 : FVec F S1x32x4096 .f32) : IVec S65536 1 × IVec S128 1 × IVec S12288x4096 1 × IVec S1x32x4096x2048 1 × IVec S1x32x2048 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 12288#32
  let main_v2 : IVec S65536 32 := broadcastInDim S65536 ![] bcast_S_S65536 main_c_0
  let main_v3 : IVec S65536 1 := cmpi .slt main_arg1 main_v2
  let main_v4 : IVec S65536 1 := andi main_v1 main_v3
  let main_c_1 : IVec S_ 32 := constantI S_ 32 0#32
  let main_v5 : IVec S128 32 := broadcastInDim S128 ![] bcast_S_S128 main_c_1
  let main_v6 : IVec S128 1 := cmpi .sge main_arg2 main_v5
  let main_c_2 : IVec S_ 32 := constantI S_ 32 32#32
  let main_v7 : IVec S128 32 := broadcastInDim S128 ![] bcast_S_S128 main_c_2
  let main_v8 : IVec S128 1 := cmpi .slt main_arg2 main_v7
  let main_v9 : IVec S128 1 := andi main_v6 main_v8
  let main_v10 : FVec F S12288x4096 .f32 := Host.absf main_arg0
  let main_cst : FVec F S_ .f32 := constant S_ .f32 0x7F800000#32
  let main_v11 : FVec F S12288x4096 .f32 := broadcastInDim S12288x4096 ![] bcast_S_S12288x4096 main_cst
  let main_v12 : IVec S12288x4096 1 := cmpf .olt main_v10 main_v11
  let main_v13 : FVec F S1x32x4096x2048 .f32 := Host.absf main_arg4
  let main_cst_3 : FVec F S_ .f32 := constant S_ .f32 0x7F800000#32
  let main_v14 : FVec F S1x32x4096x2048 .f32 := broadcastInDim S1x32x4096x2048 ![] bcast_S_S1x32x4096x2048 main_cst_3
  let main_v15 : IVec S1x32x4096x2048 1 := cmpf .olt main_v13 main_v14
  let main_v16 : FVec F S1x32x2048 .f32 := Host.absf main_arg5
  let main_cst_4 : FVec F S_ .f32 := constant S_ .f32 0x7F800000#32
  fn_part1 (F := F) main_v4 main_v9 main_v12 main_v15 main_v16 main_cst_4
-- ==== Kernel2.lean ====
abbrev S12288x4096 : Shape := ⟨2, ![12288, 4096]⟩
abbrev S1x4096x5120 : Shape := ⟨3, ![1, 4096, 5120]⟩
abbrev S12288x5120 : Shape := ⟨2, ![12288, 5120]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S4096x1024 : Shape := ⟨2, ![4096, 1024]⟩
abbrev S16x1x256x2x8x64 : Shape := ⟨6, ![16, 1, 256, 2, 8, 64]⟩
abbrev S16x1x256x1x8x64 : Shape := ⟨6, ![16, 1, 256, 1, 8, 64]⟩
abbrev S16x1x256x8x64 : Shape := ⟨5, ![16, 1, 256, 8, 64]⟩

abbrev nBuf : Space → Nat
  | .hbm => 10
  | .vmem => 7
  | .smem => 0
  | _ => 0

abbrev bufTy : (tb : Table) → Fin (tcTables nBuf tb) → BufTy
  | .hbm, ⟨0, _⟩ => ⟨S12288x4096, .f32⟩
  | .hbm, ⟨1, _⟩ => ⟨S1x4096x5120, .f32⟩
  | .hbm, ⟨2, _⟩ => ⟨S12288x4096, .bf16⟩
  | .hbm, ⟨3, _⟩ => ⟨S12288x5120, .f32⟩
  | .hbm, ⟨4, _⟩ => ⟨S4096x1024, .f32⟩
  | .hbm, ⟨5, _⟩ => ⟨S16x1x256x2x8x64, .f32⟩
  | .hbm, ⟨6, _⟩ => ⟨S16x1x256x1x8x64, .f32⟩
  | .hbm, ⟨7, _⟩ => ⟨S16x1x256x8x64, .f32⟩
  | .hbm, ⟨8, _⟩ => ⟨S16x1x256x1x8x64, .f32⟩
  | .hbm, ⟨9, _⟩ => ⟨S16x1x256x8x64, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S12288x4096 : Shape := ⟨2, ![12288, 4096]⟩
abbrev S1x4096x5120 : Shape := ⟨3, ![1, 4096, 5120]⟩
abbrev S4096x5120 : Shape := ⟨2, ![4096, 5120]⟩
abbrev S12288x5120 : Shape := ⟨2, ![12288, 5120]⟩
abbrev S16x256x5120 : Shape := ⟨3, ![16, 256, 5120]⟩
abbrev S16x256x512 : Shape := ⟨3, ![16, 256, 512]⟩
abbrev S16x256x8x64 : Shape := ⟨4, ![16, 256, 8, 64]⟩
abbrev S16x1x256x8x64 : Shape := ⟨5, ![16, 1, 256, 8, 64]⟩

abbrev nBuf : Space → Nat
  | .hbm => 12
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S1x4096x5120, .f32⟩
  | .hbm, ⟨2, _⟩ => ⟨S4096x5120, .f32⟩
  | .hbm, ⟨3, _⟩ => ⟨S12288x5120, .f32⟩
  | .hbm, ⟨4, _⟩ => ⟨S4096x5120, .f32⟩
  | .hbm, ⟨5, _⟩ => ⟨S16x256x5120, .f32⟩
  | .hbm, ⟨6, _⟩ => ⟨S16x256x512, .f32⟩
  | .hbm, ⟨7, _⟩ => ⟨S16x256x8x64, .f32⟩
  | .hbm, ⟨8, _⟩ => ⟨S16x256x512, .f32⟩
  | .hbm, ⟨9, _⟩ => ⟨S16x256x8x64, .f32⟩
  | .hbm, ⟨10, _⟩ => ⟨S16x1x256x8x64, .f32⟩
  | .hbm, ⟨11, _⟩ => ⟨S16x1x256x8x64, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S12288x4096 : Shape := ⟨2, ![12288, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S12288x4096, .f32⟩
  | .hbm, ⟨1, _⟩ => ⟨S1x4096x4096, .f32⟩
  | .hbm, ⟨2, _⟩ => ⟨S12288x4096, .bf16⟩
  | .hbm, ⟨3, _⟩ => ⟨S12288x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S12288x4096 : Shape := ⟨2, ![12288, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S1x4096x4096, .f32⟩
  | .hbm, ⟨2, _⟩ => ⟨S4096x4096, .f32⟩
  | .hbm, ⟨3, _⟩ => ⟨S12288x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S12288x4096 : Shape := ⟨2, ![12288, 4096]⟩
abbrev S1x4096x12288 : Shape := ⟨3, ![1, 4096, 12288]⟩
abbrev S12288x12288 : Shape := ⟨2, ![12288, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S4096x8192 : Shape := ⟨2, ![4096, 8192]⟩
abbrev S16x1x256x2x32x128 : Shape := ⟨6, ![16, 1, 256, 2, 32, 128]⟩
abbrev S16x1x256x1x32x128 : Shape := ⟨6, ![16, 1, 256, 1, 32, 128]⟩
abbrev S16x1x256x32x128 : Shape := ⟨5, ![16, 1, 256, 32, 128]⟩

abbrev nBuf : Space → Nat
  | .hbm => 10
  | .vmem => 7
  | .smem => 0
  | _ => 0

abbrev bufTy : (tb : Table) → Fin (tcTables nBuf tb) → BufTy
  | .hbm, ⟨0, _⟩ => ⟨S12288x4096, .f32⟩
  | .hbm, ⟨1, _⟩ => ⟨S1x4096x12288, .f32⟩
  | .hbm, ⟨2, _⟩ => ⟨S12288x4096, .bf16⟩
  | .hbm, ⟨3, _⟩ => ⟨S12288x12288, .f32⟩
  | .hbm, ⟨4, _⟩ => ⟨S4096x8192, .f32⟩
  | .hbm, ⟨5, _⟩ => ⟨S16x1x256x2x32x128, .f32⟩
  | .hbm, ⟨6, _⟩ => ⟨S16x1x256x1x32x128, .f32⟩
  | .hbm, ⟨7, _⟩ => ⟨S16x1x256x32x128, .f32⟩
  | .hbm, ⟨8, _⟩ => ⟨S16x1x256x1x32x128, .f32⟩
  | .hbm, ⟨9, _⟩ => ⟨S16x1x256x32x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S12288x4096 : Shape := ⟨2, ![12288, 4096]⟩
abbrev S1x4096x12288 : Shape := ⟨3, ![1, 4096, 12288]⟩
abbrev S4096x12288 : Shape := ⟨2, ![4096, 12288]⟩
abbrev S12288x12288 : Shape := ⟨2, ![12288, 12288]⟩
abbrev S16x256x3x32x128 : Shape := ⟨5, ![16, 256, 3, 32, 128]⟩
abbrev S16x256x1x32x128 : Shape := ⟨5, ![16, 256, 1, 32, 128]⟩
abbrev S16x256x32x128 : Shape := ⟨4, ![16, 256, 32, 128]⟩
abbrev S16x1x256x32x128 : Shape := ⟨5, ![16, 1, 256, 32, 128]⟩

abbrev nBuf : Space → Nat
  | .hbm => 12
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S1x4096x12288, .f32⟩
  | .hbm, ⟨2, _⟩ => ⟨S4096x12288, .f32⟩
  | .hbm, ⟨3, _⟩ => ⟨S12288x12288, .f32⟩
  | .hbm, ⟨4, _⟩ => ⟨S4096x12288, .f32⟩
  | .hbm, ⟨5, _⟩ => ⟨S16x256x3x32x128, .f32⟩
  | .hbm, ⟨6, _⟩ => ⟨S16x256x1x32x128, .f32⟩
  | .hbm, ⟨7, _⟩ => ⟨S16x256x32x128, .f32⟩
  | .hbm, ⟨8, _⟩ => ⟨S16x1x256x32x128, .f32⟩
  | .hbm, ⟨9, _⟩ => ⟨S16x256x1x32x128, .f32⟩
  | .hbm, ⟨10, _⟩ => ⟨S16x256x32x128, .f32⟩
  | .hbm, ⟨11, _⟩ => ⟨S16x1x256x32x128, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel5.lean ====
abbrev S12288x4096 : Shape := ⟨2, ![12288, 4096]⟩
abbrev S1x4096x8192 : Shape := ⟨3, ![1, 4096, 8192]⟩
abbrev S1x8192 : Shape := ⟨2, ![1, 8192]⟩
abbrev S1x1x8192 : Shape := ⟨3, ![1, 1, 8192]⟩
abbrev S12288x8192 : Shape := ⟨2, ![12288, 8192]⟩
abbrev S1024x4096 : Shape := ⟨2, ![1024, 4096]⟩
abbrev S1x4096x512 : Shape := ⟨3, ![1, 4096, 512]⟩
abbrev S1x1x512 : Shape := ⟨3, ![1, 1, 512]⟩
abbrev S1024x512 : Shape := ⟨2, ![1024, 512]⟩
abbrev S4096x512 : Shape := ⟨2, ![4096, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S12288x4096, .f32⟩
  | .hbm, ⟨1, _⟩ => ⟨S1x4096x8192, .f32⟩
  | .hbm, ⟨2, _⟩ => ⟨S1x8192, .f32⟩
  | .hbm, ⟨3, _⟩ => ⟨S12288x4096, .bf16⟩
  | .hbm, ⟨4, _⟩ => ⟨S1x1x8192, .f32⟩
  | .hbm, ⟨5, _⟩ => ⟨S12288x8192, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S12288x4096 : Shape := ⟨2, ![12288, 4096]⟩
abbrev S1x4096x8192 : Shape := ⟨3, ![1, 4096, 8192]⟩
abbrev S1x8192 : Shape := ⟨2, ![1, 8192]⟩
abbrev S4096x8192 : Shape := ⟨2, ![4096, 8192]⟩
abbrev S12288x8192 : Shape := ⟨2, ![12288, 8192]⟩
abbrev S8192 : Shape := ⟨1, ![8192]⟩

abbrev nBuf : Space → Nat
  | .hbm => 9
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S1x4096x8192, .f32⟩
  | .hbm, ⟨2, _⟩ => ⟨S1x8192, .f32⟩
  | .hbm, ⟨3, _⟩ => ⟨S4096x8192, .f32⟩
  | .hbm, ⟨4, _⟩ => ⟨S12288x8192, .f32⟩
  | .hbm, ⟨5, _⟩ => ⟨S8192, .f32⟩
  | .hbm, ⟨6, _⟩ => ⟨S1x8192, .f32⟩
  | .hbm, ⟨7, _⟩ => ⟨S12288x8192, .f32⟩
  | .hbm, ⟨8, _⟩ => ⟨S12288x8192, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S12288x4096 : Shape := ⟨2, ![12288, 4096]⟩
abbrev S1x4096x4096 : Shape := ⟨3, ![1, 4096, 4096]⟩
abbrev S1x4096 : Shape := ⟨2, ![1, 4096]⟩
abbrev S1x1x4096 : Shape := ⟨3, ![1, 1, 4096]⟩
abbrev S1024x4096 : Shape := ⟨2, ![1024, 4096]⟩
abbrev S1x4096x512 : Shape := ⟨3, ![1, 4096, 512]⟩
abbrev S1x1x512 : Shape := ⟨3, ![1, 1, 512]⟩
abbrev S1024x512 : Shape := ⟨2, ![1024, 512]⟩
abbrev S4096x512 : Shape := ⟨2, ![4096, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S12288x4096, .f32⟩
  | .hbm, ⟨1, _⟩ => ⟨S1x4096x4096, .f32⟩
  | .hbm, ⟨2, _⟩ => ⟨S1x4096, .f32⟩
  | .hbm, ⟨3, _⟩ => ⟨S12288x4096, .bf16⟩
  | .hbm, ⟨4, _⟩ => ⟨S1x1x4096, .f32⟩
  | .hbm, ⟨5, _⟩ => ⟨S12288x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S12288x4096 : Shape := ⟨2, ![12288, 4096]⟩
abbrev S1x4096x4096 : Shape := ⟨3, ![1, 4096, 4096]⟩
abbrev S1x4096 : Shape := ⟨2, ![1, 4096]⟩
abbrev S4096x4096 : Shape := ⟨2, ![4096, 4096]⟩
abbrev S4096 : Shape := ⟨1, ![4096]⟩

abbrev nBuf : Space → Nat
  | .hbm => 9
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S1x4096x4096, .f32⟩
  | .hbm, ⟨2, _⟩ => ⟨S1x4096, .f32⟩
  | .hbm, ⟨3, _⟩ => ⟨S4096x4096, .f32⟩
  | .hbm, ⟨4, _⟩ => ⟨S12288x4096, .f32⟩
  | .hbm, ⟨5, _⟩ => ⟨S4096, .f32⟩
  | .hbm, ⟨6, _⟩ => ⟨S1x4096, .f32⟩
  | .hbm, ⟨7, _⟩ => ⟨S12288x4096, .f32⟩
  | .hbm, ⟨8, _⟩ => ⟨S12288x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S12288x4096 : Shape := ⟨2, ![12288, 4096]⟩
abbrev S3x6x4096 : Shape := ⟨3, ![3, 6, 4096]⟩
abbrev S4x4096 : Shape := ⟨2, ![4, 4096]⟩
abbrev S4x1x4096 : Shape := ⟨3, ![4, 1, 4096]⟩
abbrev S256x4096 : Shape := ⟨2, ![256, 4096]⟩
abbrev S1x6x4096 : Shape := ⟨3, ![1, 6, 4096]⟩
abbrev S1x1x4096 : Shape := ⟨3, ![1, 1, 4096]⟩
abbrev S6x4096 : Shape := ⟨2, ![6, 4096]⟩
abbrev S1x4096 : Shape := ⟨2, ![1, 4096]⟩
abbrev S256 : Shape := ⟨1, ![256]⟩
abbrev S256x1 : Shape := ⟨2, ![256, 1]⟩
abbrev S4096x4096 : Shape := ⟨2, ![4096, 4096]⟩
abbrev S16x256x4096 : Shape := ⟨3, ![16, 256, 4096]⟩
abbrev S8192x4096 : Shape := ⟨2, ![8192, 4096]⟩
abbrev S2x4096x4096 : Shape := ⟨3, ![2, 4096, 4096]⟩

abbrev nBuf : Space → Nat
  | .hbm => 12
  | .vmem => 10
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S3x6x4096, .f32⟩
  | .hbm, ⟨3, _⟩ => ⟨S4x4096, .f32⟩
  | .hbm, ⟨4, _⟩ => ⟨S4x4096, .f32⟩
  | .hbm, ⟨5, _⟩ => ⟨S4x1x4096, .f32⟩
  | .hbm, ⟨6, _⟩ => ⟨S4x1x4096, .f32⟩
  | .hbm, ⟨7, _⟩ => ⟨S12288x4096, .f32⟩
  | .hbm, ⟨8, _⟩ => ⟨S4096x4096, .f32⟩
  | .hbm, ⟨9, _⟩ => ⟨S16x256x4096, .f32⟩
  | .hbm, ⟨10, _⟩ => ⟨S8192x4096, .f32⟩
  | .hbm, ⟨11, _⟩ => ⟨S2x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x6x4096, .f32⟩
  | .local _ .vmem, ⟨5, _⟩ => ⟨S1x6x4096, .f32⟩
  | .local _ .vmem, ⟨6, _⟩ => ⟨S1x1x4096, .f32⟩
  | .local _ .vmem, ⟨7, _⟩ => ⟨S1x1x4096, .f32⟩
  | .local _ .vmem, ⟨8, _⟩ => ⟨S256x4096, .f32⟩
  | .local _ .vmem, ⟨9, _⟩ => ⟨S256x4096, .f32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S12288x4096 : Shape := ⟨2, ![12288, 4096]⟩
abbrev S3x6x4096 : Shape := ⟨3, ![3, 6, 4096]⟩
abbrev S4x4096 : Shape := ⟨2, ![4, 4096]⟩
abbrev S4096x4096 : Shape := ⟨2, ![4096, 4096]⟩
abbrev S16x256x4096 : Shape := ⟨3, ![16, 256, 4096]⟩
abbrev S8192x4096 : Shape := ⟨2, ![8192, 4096]⟩
abbrev S2x4096x4096 : Shape := ⟨3, ![2, 4096, 4096]⟩
abbrev S1x1x4096 : Shape := ⟨3, ![1, 1, 4096]⟩
abbrev S1x4096 : Shape := ⟨2, ![1, 4096]⟩
abbrev S2x1x4096 : Shape := ⟨3, ![2, 1, 4096]⟩
abbrev S2x4096 : Shape := ⟨2, ![2, 4096]⟩
abbrev S_ : Shape := ⟨0, ![]⟩
abbrev S4096 : Shape := ⟨1, ![4096]⟩
abbrev S16x256 : Shape := ⟨2, ![16, 256]⟩
abbrev S16x256x1 : Shape := ⟨3, ![16, 256, 1]⟩
abbrev S2x4096x1 : Shape := ⟨3, ![2, 4096, 1]⟩

abbrev nBuf : Space → Nat
  | .hbm => 103
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S3x6x4096, .f32⟩
  | .hbm, ⟨3, _⟩ => ⟨S4x4096, .f32⟩
  | .hbm, ⟨4, _⟩ => ⟨S4x4096, .f32⟩
  | .hbm, ⟨5, _⟩ => ⟨S4096x4096, .f32⟩
  | .hbm, ⟨6, _⟩ => ⟨S16x256x4096, .f32⟩
  | .hbm, ⟨7, _⟩ => ⟨S8192x4096, .f32⟩
  | .hbm, ⟨8, _⟩ => ⟨S2x4096x4096, .f32⟩
  | .hbm, ⟨9, _⟩ => ⟨S4096x4096, .f32⟩
  | .hbm, ⟨10, _⟩ => ⟨S16x256x4096, .f32⟩
  | .hbm, ⟨11, _⟩ => ⟨S8192x4096, .f32⟩
  | .hbm, ⟨12, _⟩ => ⟨S2x4096x4096, .f32⟩
  | .hbm, ⟨13, _⟩ => ⟨S1x1x4096, .f32⟩
  | .hbm, ⟨14, _⟩ => ⟨S1x4096, .f32⟩
  | .hbm, ⟨15, _⟩ => ⟨S2x1x4096, .f32⟩
  | .hbm, ⟨16, _⟩ => ⟨S2x4096, .f32⟩
  | .hbm, ⟨17, _⟩ => ⟨S_, .f32⟩
  | .hbm, ⟨18, _⟩ => ⟨S16x256x4096, .f32⟩
  | .hbm, ⟨19, _⟩ => ⟨S16x256x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x1x4096, .f32⟩
  | .hbm, ⟨24, _⟩ => ⟨S16x256x4096, .f32⟩
  | .hbm, ⟨25, _⟩ => ⟨S16x256x4096, .f32⟩
  | .hbm, ⟨26, _⟩ => ⟨S16x256x4096, .f32⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S4096, .f32⟩
  | .hbm, ⟨31, _⟩ => ⟨S_, .f32⟩
  | .hbm, ⟨32, _⟩ => ⟨S16x256, .f32⟩
  | .hbm, ⟨33, _⟩ => ⟨S16x256x1, .f32⟩
  | .hbm, ⟨34, _⟩ => ⟨S_, .f32⟩
  | .hbm, ⟨35, _⟩ => ⟨S16x256x1, .f32⟩
  | .hbm, ⟨36, _⟩ => ⟨S16x256x1, .f32⟩
  | .hbm, ⟨37, _⟩ => ⟨S16x256x4096, .f32⟩
  | .hbm, ⟨38, _⟩ => ⟨S16x256x4096, .f32⟩
  | .hbm, ⟨39, _⟩ => ⟨S16x256x4096, .f32⟩
  | .hbm, ⟨40, _⟩ => ⟨S_, .f32⟩
  | .hbm, ⟨41, _⟩ => ⟨S16x256, .f32⟩
  | .hbm, ⟨42, _⟩ => ⟨S16x256x1, .f32⟩
  | .hbm, ⟨43, _⟩ => ⟨S_, .f32⟩
  | .hbm, ⟨44, _⟩ => ⟨S16x256x1, .f32⟩
  | .hbm, ⟨45, _⟩ => ⟨S16x256x1, .f32⟩
  | .hbm, ⟨46, _⟩ => ⟨S16x256x4096, .f32⟩
  | .hbm, ⟨47, _⟩ => ⟨S16x256x4096, .f32⟩
  | .hbm, ⟨48, _⟩ => ⟨S_, .f32⟩
  | .hbm, ⟨49, _⟩ => ⟨S16x256x1, .f32⟩
  | .hbm, ⟨50, _⟩ => ⟨S16x256x1, .f32⟩
  | .hbm, ⟨51, _⟩ => ⟨S16x256x1, .f32⟩
  | .hbm, ⟨52, _⟩ => ⟨S16x256x4096, .f32⟩
  | .hbm, ⟨53, _⟩ => ⟨S16x256x4096, .f32⟩
  | .hbm, ⟨54, _⟩ => ⟨S1x1x4096, .f32⟩
  | .hbm, ⟨55, _⟩ => ⟨S16x256x4096, .f32⟩
  | .hbm, ⟨56, _⟩ => ⟨S16x256x4096, .f32⟩
  | .hbm, ⟨57, _⟩ => ⟨S1x1x4096, .f32⟩
  | .hbm, ⟨58, _⟩ => ⟨S16x256x4096, .f32⟩
  | .hbm, ⟨59, _⟩ => ⟨S16x256x4096, .f32⟩
  | .hbm, ⟨60, _⟩ => ⟨S_, .f32⟩
  | .hbm, ⟨61, _⟩ => ⟨S2x4096x4096, .f32⟩
  | .hbm, ⟨62, _⟩ => ⟨S2x4096x4096, .f32⟩
  | .hbm, ⟨63, _⟩ => ⟨S_, .f32⟩
  | .hbm, ⟨64, _⟩ => ⟨S2x4096, .f32⟩
  | .hbm, ⟨65, _⟩ => ⟨S2x4096, .f32⟩
  | .hbm, ⟨66, _⟩ => ⟨S2x1x4096, .f32⟩
  | .hbm, ⟨67, _⟩ => ⟨S2x4096x4096, .f32⟩
  | .hbm, ⟨68, _⟩ => ⟨S2x4096x4096, .f32⟩
  | .hbm, ⟨69, _⟩ => ⟨S2x4096x4096, .f32⟩
  | .hbm, ⟨70, _⟩ => ⟨S1x4096, .f32⟩
  | .hbm, ⟨71, _⟩ => ⟨S4096, .f32⟩
  | .hbm, ⟨72, _⟩ => ⟨S1x4096, .f32⟩
  | .hbm, ⟨73, _⟩ => ⟨S4096, .f32⟩
  | .hbm, ⟨74, _⟩ => ⟨S_, .f32⟩
  | .hbm, ⟨75, _⟩ => ⟨S2x4096, .f32⟩
  | .hbm, ⟨76, _⟩ => ⟨S2x4096x1, .f32⟩
  | .hbm, ⟨77, _⟩ => ⟨S_, .f32⟩
  | .hbm, ⟨78, _⟩ => ⟨S2x4096x1, .f32⟩
  | .hbm, ⟨79, _⟩ => ⟨S2x4096x1, .f32⟩
  | .hbm, ⟨80, _⟩ => ⟨S2x4096x4096, .f32⟩
  | .hbm, ⟨81, _⟩ => ⟨S2x4096x4096, .f32⟩
  | .hbm, ⟨82, _⟩ => ⟨S2x4096x4096, .f32⟩
  | .hbm, ⟨83, _⟩ => ⟨S_, .f32⟩
  | .hbm, ⟨84, _⟩ => ⟨S2x4096, .f32⟩
  | .hbm, ⟨85, _⟩ => ⟨S2x4096x1, .f32⟩
  | .hbm, ⟨86, _⟩ => ⟨S_, .f32⟩
  | .hbm, ⟨87, _⟩ => ⟨S2x4096x1, .f32⟩
  | .hbm, ⟨88, _⟩ => ⟨S2x4096x1, .f32⟩
  | .hbm, ⟨89, _⟩ => ⟨S2x4096x4096, .f32⟩
  | .hbm, ⟨90, _⟩ => ⟨S2x4096x4096, .f32⟩
  | .hbm, ⟨91, _⟩ => ⟨S_, .f32⟩
  | .hbm, ⟨92, _⟩ => ⟨S2x4096x1, .f32⟩
  | .hbm, ⟨93, _⟩ => ⟨S2x4096x1, .f32⟩
  | .hbm, ⟨94, _⟩ => ⟨S2x4096x1, .f32⟩
  | .hbm, ⟨95, _⟩ => ⟨S2x4096x4096, .f32⟩
  | .hbm, ⟨96, _⟩ => ⟨S2x4096x4096, .f32⟩
  | .hbm, ⟨97, _⟩ => ⟨S1x1x4096, .f32⟩
  | .hbm, ⟨98, _⟩ => ⟨S2x4096x4096, .f32⟩
  | .hbm, ⟨99, _⟩ => ⟨S2x4096x4096, .f32⟩
  | .hbm, ⟨100, _⟩ => ⟨S1x1x4096, .f32⟩
  | .hbm, ⟨101, _⟩ => ⟨S2x4096x4096, .f32⟩
  | .hbm, ⟨102, _⟩ => ⟨S2x4096x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_12 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩

abbrev nD : Nat := 1
abbrev τ : Topo := Topo.v7x

variable {F : FTy → Type} [FloatOps F]
-- ==== Kernel8.lean ====
abbrev S12288x4096 : Shape := ⟨2, ![12288, 4096]⟩
abbrev S65536 : Shape := ⟨1, ![65536]⟩
abbrev S128 : Shape := ⟨1, ![128]⟩
abbrev S1 : Shape := ⟨1, ![1]⟩
abbrev S1x32x4096x2048 : Shape := ⟨4, ![1, 32, 4096, 2048]⟩
abbrev S1x32x2048 : Shape := ⟨3, ![1, 32, 2048]⟩
abbrev S1x32x1024x4096 : Shape := ⟨4, ![1, 32, 1024, 4096]⟩
abbrev S1x32x4096 : Shape := ⟨3, ![1, 32, 4096]⟩
abbrev S_ : Shape := ⟨0, ![]⟩
abbrev S128x1x512 : Shape := ⟨3, ![128, 1, 512]⟩
abbrev S1x32x1x2048 : Shape := ⟨4, ![1, 32, 1, 2048]⟩
abbrev S1x32x1x4096 : Shape := ⟨4, ![1, 32, 1, 4096]⟩
abbrev S65536x4096 : Shape := ⟨2, ![65536, 4096]⟩
abbrev S1x1x512 : Shape := ⟨3, ![1, 1, 512]⟩
abbrev S1x1x4096x512 : Shape := ⟨4, ![1, 1, 4096, 512]⟩
abbrev S1x1x1x512 : Shape := ⟨4, ![1, 1, 1, 512]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S512x4096 : Shape := ⟨2, ![512, 4096]⟩
abbrev S4x512x256 : Shape := ⟨3, ![4, 512, 256]⟩
abbrev S1x1x1 : Shape := ⟨3, ![1, 1, 1]⟩
abbrev S1x4096 : Shape := ⟨2, ![1, 4096]⟩
abbrev S4096x512 : Shape := ⟨2, ![4096, 512]⟩
abbrev S512x512 : Shape := ⟨2, ![512, 512]⟩
abbrev S1x512 : Shape := ⟨2, ![1, 512]⟩
abbrev S512x256 : Shape := ⟨2, ![512, 256]⟩
abbrev S256x256 : Shape := ⟨2, ![256, 256]⟩
abbrev S512x128 : Shape := ⟨2, ![512, 128]⟩
abbrev S1x512x256 : Shape := ⟨3, ![1, 512, 256]⟩
abbrev S1x1024 : Shape := ⟨2, ![1, 1024]⟩
abbrev S1x1x256x1024 : Shape := ⟨4, ![1, 1, 256, 1024]⟩
abbrev S256x1024 : Shape := ⟨2, ![256, 1024]⟩

abbrev nBuf : Space → Nat
  | .hbm => 18
  | .vmem => 13
  | .smem => 6
  | _ => 0

abbrev bufTy : (tb : Table) → Fin (tcTables nBuf tb) → BufTy
  | .hbm, ⟨0, _⟩ => ⟨S12288x4096, .f32⟩
  | .hbm, ⟨1, _⟩ => ⟨S65536, .i32⟩
  | .hbm, ⟨2, _⟩ => ⟨S1, .i32⟩
  | .hbm, ⟨3, _⟩ => ⟨S1x32x4096x2048, .f32⟩
  | .hbm, ⟨4, _⟩ => ⟨S1x32x2048, .f32⟩
  | .hbm, ⟨5, _⟩ => ⟨S1x32x1024x4096, .f32⟩
  | .hbm, ⟨6, _⟩ => ⟨S1x32x4096, .f32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128x1x512, .i32⟩
  | .hbm, ⟨15, _⟩ => ⟨S1x32x1x2048, .f32⟩
  | .hbm, ⟨16, _⟩ => ⟨S1x32x1x4096, .f32⟩
  | .hbm, ⟨17, _⟩ => ⟨S65536x4096, .f32⟩
  | .local _ .vmem, ⟨0, _⟩ => ⟨S1x1x4096x512, .f32⟩
  | .local _ .vmem, ⟨1, _⟩ => ⟨S1x1x4096x512, .f32⟩
  | .local _ .vmem, ⟨2, _⟩ => ⟨S1x1x1x512, .f32⟩
  | .local _ .vmem, ⟨3, _⟩ => ⟨S1x1x1x512, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S512x1024, .f32⟩
  | .local _ .vmem, ⟨9, _⟩ => ⟨S512x1024, .f32⟩
  | .local _ .vmem, ⟨10, _⟩ => ⟨S512x4096, .f32⟩
  | .local _ .vmem, ⟨11, _⟩ => ⟨S512x4096, .bf16⟩
  | .local _ .vmem, ⟨12, _⟩ => ⟨S4x512x256, .bf16⟩
  | .local _ .smem, ⟨0, _⟩ => ⟨S128, .i32⟩
  | .local _ .smem, ⟨1, _⟩ => ⟨S128, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_arg2 : Ref sig .tc := ⟨.smem, 0, rfl⟩
abbrev main_v6 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![128, 8], ![false, false]⟩

abbrev pre0 : Pipeline.Prefetch sig := ⟨2, ![main_arg2.idx, main_v6.idx], fun | 0 => main_arg2.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c0_i32_10 : BitVec 32 := 0#32
  let v32 : BitVec 1 := Scalar.cmpi .eq arg0 c0_i32_10
  let v33 : BitVec 32 := Scalar.extui v32
  let c0_i32_11 : BitVec 32 := 0#32
  let v34 : BitVec 1 := Scalar.cmpi .ne v33 c0_i32_11
  v34

@[reducible] def k0_t1_loop : Scf.Loop 32 :=
  let c0_i32_22 : BitVec 32 := 0#32
  let c512_i32_23 : BitVec 32 := 512#32
  let v51 : BitVec 32 := Scalar.addi c0_i32_22 c512_i32_23
  let c1_i32_24 : BitVec 32 := 1#32
  ⟨c0_i32_22, v51, c1_i32_24⟩
def k0_off2 (k0_t1 : Fin k0_t1_loop.trips) : Fin 3 → Nat :=
  let c0_26 : Index := 0#32
  let c0_27 : Index := 0#32
  let c0_i32_22 : BitVec 32 := 0#32
  let c1_i32_24 : BitVec 32 := 1#32
  let arg16 : BitVec 32 := Scf.iv c0_i32_22 c1_i32_24 k0_t1
  let v52 : Index := Scalar.indexCast arg16
  ![0, 0, v52.toNat]
def k0_off3 (k0_t1 : Fin k0_t1_loop.trips) : Fin 2 → Nat :=
  let c0_i32_22 : BitVec 32 := 0#32
  let c1_i32_24 : BitVec 32 := 1#32
  let arg16 : BitVec 32 := Scf.iv c0_i32_22 c1_i32_24 k0_t1
  let c0_i32_28 : BitVec 32 := 0#32
  ![arg16.toNat, 0]
def k0_off4 (v53 : BitVec 32) : Fin 2 → Nat :=
  let c0_i32_29 : BitVec 32 := 0#32
  ![v53.toNat, 0]
def k0_cond1 (i : grid0.Coords) (v1 : BitVec 32) : BitVec 1 :=
  let c0_i32 : BitVec 32 := 0#32
  let v2 : BitVec 1 := Scalar.cmpi .ne v1 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_chk1 (i : grid0.Coords) (v1 : BitVec 32) (v53 : BitVec 32) : Prop :=
  (∀ (k0_h1 : k0_cond1 i v1 = 1#1), ∀ (k0_h2 : k0_cond2 i = 1#1), ∀ a, (k0_off4 v53) a + S1x4096.size a ≤ S12288x4096.size a)
theorem k0_off4_inb : ∀ (i : grid0.Coords) (v1 : BitVec 32) (v53 : BitVec 32) (k0_hw1 : k0_chk1 i v1 v53), ∀ (k0_h1 : k0_cond1 i v1 = 1#1), ∀ (k0_h2 : k0_cond2 i = 1#1), ∀ a, (k0_off4 v53) a + S1x4096.size a ≤ S12288x4096.size a := fun i v1 v53 k0_hw1 k0_h1 k0_h2 => k0_hw1 k0_h1 k0_h2

@[reducible] def k0_t2_loop : Scf.Loop 32 :=
  let c0_i32_12 : BitVec 32 := 0#32
  let c512_i32 : BitVec 32 := 512#32
  let v35 : BitVec 32 := Scalar.addi c0_i32_12 c512_i32
  let c1_i32_13 : BitVec 32 := 1#32
  ⟨c0_i32_12, v35, c1_i32_13⟩
def k0_off5 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c0_i32_22 : BitVec 32 := 0#32
  ![arg16.toNat, 0]
def k0_off6 (i : grid0.Coords) : Fin 1 → Nat :=
  let arg0 : BitVec 32 := BitVec.ofNat 32 (i 0).val
  let c1_i32_18 : BitVec 32 := 1#32
  let v41 : BitVec 32 := Scalar.addi arg0 c1_i32_18
  let c127_i32 : BitVec 32 := 127#32
  let v42 : BitVec 32 := Scalar.minsi v41 c127_i32
  let v45 : Index := Scalar.indexCast v42
  ![v45.toNat]
@[reducible] def k0_t3_loop : Scf.Loop 32 :=
  let c0_i32_22 : BitVec 32 := 0#32
  let c512_i32_23 : BitVec 32 := 512#32
  let v51 : BitVec 32 := Scalar.addi c0_i32_22 c512_i32_23
  let c1_i32_24 : BitVec 32 := 1#32
  ⟨c0_i32_22, v51, c1_i32_24⟩
def k0_off7 (k0_t3 : Fin k0_t3_loop.trips) : Fin 3 → Nat :=
  let c0_26 : Index := 0#32
  let c0_27 : Index := 0#32
  let c0_i32_22 : BitVec 32 := 0#32
  let c1_i32_24 : BitVec 32 := 1#32
  let arg16 : BitVec 32 := Scf.iv c0_i32_22 c1_i32_24 k0_t3
  let v52 : Index := Scalar.indexCast arg16
  ![0, 0, v52.toNat]
def k0_off8 (k0_t3 : Fin k0_t3_loop.trips) : Fin 2 → Nat :=
  let c0_i32_22 : BitVec 32 := 0#32
  let c1_i32_24 : BitVec 32 := 1#32
  let arg16 : BitVec 32 := Scf.iv c0_i32_22 c1_i32_24 k0_t3
  let c0_i32_28 : BitVec 32 := 0#32
  ![arg16.toNat, 0]
def k0_off9 (v53 : BitVec 32) : Fin 2 → Nat :=
  let c0_i32_29 : BitVec 32 := 0#32
  ![v53.toNat, 0]
def k0_cond3 (i : grid0.Coords) (v46 : BitVec 32) : BitVec 1 :=
  let arg0 : BitVec 32 := BitVec.ofNat 32 (i 0).val
  let c1_i32_19 : BitVec 32 := 1#32
  let v43 : BitVec 32 := Scalar.addi arg0 c1_i32_19
  let c128_i32 : BitVec 32 := 128#32
  let v44 : BitVec 1 := Scalar.cmpi .slt v43 c128_i32
  let c0_i32_20 : BitVec 32 := 0#32
  let v47 : BitVec 1 := Scalar.cmpi .ne v46 c0_i32_20
  let v48 : BitVec 1 := Scalar.andi v44 v47
  let v49 : BitVec 32 := Scalar.extui v48
  let c0_i32_21 : BitVec 32 := 0#32
  let v50 : BitVec 1 := Scalar.cmpi .ne v49 c0_i32_21
  v50

def k0_chk2 (i : grid0.Coords) (v1 : BitVec 32) (v46 : BitVec 32) (v53 : BitVec 32) : Prop :=
  (∀ (k0_h1 : k0_cond1 i v1 = 1#1), ∀ (k0_h3 : k0_cond3 i v46 = 1#1), ∀ a, (k0_off9 v53) a + S1x4096.size a ≤ S12288x4096.size a)
theorem k0_off9_inb : ∀ (i : grid0.Coords) (v1 : BitVec 32) (v46 : BitVec 32) (v53 : BitVec 32) (k0_hw2 : k0_chk2 i v1 v46 v53), ∀ (k0_h1 : k0_cond1 i v1 = 1#1), ∀ (k0_h3 : k0_cond3 i v46 = 1#1), ∀ a, (k0_off9 v53) a + S1x4096.size a ≤ S12288x4096.size a := fun i v1 v46 v53 k0_hw2 k0_h1 k0_h3 => k0_hw2 k0_h1 k0_h3

def k0_cond8 (i : grid0.Coords) (v1 : BitVec 32) : BitVec 1 :=
  let c0_i32 : BitVec 32 := 0#32
  let v2 : BitVec 1 := Scalar.cmpi .ne v1 c0_i32
  let arg1 : BitVec 32 := BitVec.ofNat 32 (i 1).val
  let c4_i32 : BitVec 32 := 4#32
  let v23 : BitVec 1 := Scalar.cmpi .sge arg1 c4_i32
  let v24 : BitVec 1 := Scalar.andi v2 v23
  let v25 : BitVec 32 := Scalar.extui v24
  let c0_i32_7 : BitVec 32 := 0#32
  let v26 : BitVec 1 := Scalar.cmpi .ne v25 c0_i32_7
  v26

def k0_cond9 (i : grid0.Coords) (v1 : BitVec 32) : BitVec 1 :=
  let c0_i32 : BitVec 32 := 0#32
  let v2 : BitVec 1 := Scalar.cmpi .ne v1 c0_i32
  let v_true : BitVec 1 := 1#1
  let v27 : BitVec 1 := Scalar.xori v2 v_true
  let arg1 : BitVec 32 := BitVec.ofNat 32 (i 1).val
  let c4_i32_8 : BitVec 32 := 4#32
  let v28 : BitVec 1 := Scalar.cmpi .sge arg1 c4_i32_8
  let v29 : BitVec 1 := Scalar.andi v27 v28
  let v30 : BitVec 32 := Scalar.extui v29
  let c0_i32_9 : BitVec 32 := 0#32
  let v31 : BitVec 1 := Scalar.cmpi .ne v30 c0_i32_9
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c127_i32 : BitVec 32 := 127#32
  let v1 : BitVec 32 := Scalar.minsi v0 c127_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c3_i32 : BitVec 32 := 3#32
  let v2 : BitVec 32 := Scalar.minsi arg1 c3_i32
  let c0_i32 : BitVec 32 := 0#32
  let c0_i32_0 : BitVec 32 := 0#32
  let c0_i32_1 : BitVec 32 := 0#32
  ![c0_i32.toNat, v1.toNat, c0_i32_0.toNat, v2.toNat]

def cc0_transform_4 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c3_i32 : BitVec 32 := 3#32
  let v2 : BitVec 32 := Scalar.minsi arg1 c3_i32
  let c0_i32 : BitVec 32 := 0#32
  let c0_i32_0 : BitVec 32 := 0#32
  let c0_i32_1 : BitVec 32 := 0#32
  ![c0_i32.toNat, v1.toNat, c0_i32_0.toNat, v2.toNat]

def cc0_transform_5 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c4_i32 : BitVec 32 := 4#32
  let v2 : BitVec 32 := Scalar.subi arg1 c4_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v1.toNat, c0_i32_1.toNat, v3.toNat]

def cc0_transform_6 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c4_i32 : BitVec 32 := 4#32
  let v2 : BitVec 32 := Scalar.subi arg1 c4_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v1.toNat, c0_i32_1.toNat, v3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S12288x4096 : Shape := ⟨2, ![12288, 4096]⟩
abbrev S65536 : Shape := ⟨1, ![65536]⟩
abbrev S128 : Shape := ⟨1, ![128]⟩
abbrev S1 : Shape := ⟨1, ![1]⟩
abbrev S1x32x4096x2048 : Shape := ⟨4, ![1, 32, 4096, 2048]⟩
abbrev S1x32x2048 : Shape := ⟨3, ![1, 32, 2048]⟩
abbrev S1x32x1024x4096 : Shape := ⟨4, ![1, 32, 1024, 4096]⟩
abbrev S1x32x4096 : Shape := ⟨3, ![1, 32, 4096]⟩
abbrev S65536x1 : Shape := ⟨2, ![65536, 1]⟩
abbrev S65536x4096 : Shape := ⟨2, ![65536, 4096]⟩
abbrev S128x512x4096 : Shape := ⟨3, ![128, 512, 4096]⟩
abbrev S32x4096x2048 : Shape := ⟨3, ![32, 4096, 2048]⟩
abbrev S128x1 : Shape := ⟨2, ![128, 1]⟩
abbrev S128x4096x2048 : Shape := ⟨3, ![128, 4096, 2048]⟩
abbrev S128x512x2048 : Shape := ⟨3, ![128, 512, 2048]⟩
abbrev S32x2048 : Shape := ⟨2, ![32, 2048]⟩
abbrev S128x2048 : Shape := ⟨2, ![128, 2048]⟩
abbrev S128x1x2048 : Shape := ⟨3, ![128, 1, 2048]⟩
abbrev S128x512x1024 : Shape := ⟨3, ![128, 512, 1024]⟩
abbrev S_ : Shape := ⟨0, ![]⟩
abbrev S32x1024x4096 : Shape := ⟨3, ![32, 1024, 4096]⟩
abbrev S128x1024x4096 : Shape := ⟨3, ![128, 1024, 4096]⟩
abbrev S32x4096 : Shape := ⟨2, ![32, 4096]⟩
abbrev S128x4096 : Shape := ⟨2, ![128, 4096]⟩
abbrev S128x1x4096 : Shape := ⟨3, ![128, 1, 4096]⟩
abbrev S128x1x1 : Shape := ⟨3, ![128, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S65536, .i32⟩
  | .hbm, ⟨2, _⟩ => ⟨S128, .i32⟩
  | .hbm, ⟨3, _⟩ => ⟨S1, .i32⟩
  | .hbm, ⟨4, _⟩ => ⟨S1x32x4096x2048, .f32⟩
  | .hbm, ⟨5, _⟩ => ⟨S1x32x2048, .f32⟩
  | .hbm, ⟨6, _⟩ => ⟨S1x32x1024x4096, .f32⟩
  | .hbm, ⟨7, _⟩ => ⟨S1x32x4096, .f32⟩
  | .hbm, ⟨8, _⟩ => ⟨S65536x1, .i32⟩
  | .hbm, ⟨9, _⟩ => ⟨S65536x4096, .f32⟩
  | .hbm, ⟨10, _⟩ => ⟨S128x512x4096, .f32⟩
  | .hbm, ⟨11, _⟩ => ⟨S32x4096x2048, .f32⟩
  | .hbm, ⟨12, _⟩ => ⟨S128x1, .i32⟩
  | .hbm, ⟨13, _⟩ => ⟨S128x4096x2048, .f32⟩
  | .hbm, ⟨14, _⟩ => ⟨S128x512x2048, .f32⟩
  | .hbm, ⟨15, _⟩ => ⟨S32x2048, .f32⟩
  | .hbm, ⟨16, _⟩ => ⟨S128x1, .i32⟩
  | .hbm, ⟨17, _⟩ => ⟨S128x2048, .f32⟩
  | .hbm, ⟨18, _⟩ => ⟨S128x1x2048, .f32⟩
  | .hbm, ⟨19, _⟩ => ⟨S128x512x2048, .f32⟩
  | .hbm, ⟨20, _⟩ => ⟨S128x512x2048, .f32⟩
  | .hbm, ⟨21, _⟩ => ⟨S128x512x1024, .f32⟩
  | .hbm, ⟨22, _⟩ => ⟨S128x512x1024, .f32⟩
  | .hbm, ⟨23, _⟩ => ⟨S_, .f32⟩
  | .hbm, ⟨24, _⟩ => ⟨S128x512x1024, .f32⟩
  | .hbm, ⟨25, _⟩ => ⟨S128x512x1024, .f32⟩
  | .hbm, ⟨26, _⟩ => ⟨S_, .f32⟩
  | .hbm, ⟨27, _⟩ => ⟨S128x512x1024, .f32⟩
  | .hbm, ⟨28, _⟩ => ⟨S128x512x1024, .f32⟩
  | .hbm, ⟨29, _⟩ => ⟨S_, .f32⟩
  | .hbm, ⟨30, _⟩ => ⟨S128x512x1024, .f32⟩
  | .hbm, ⟨31, _⟩ => ⟨S128x512x1024, .f32⟩
  | .hbm, ⟨32, _⟩ => ⟨S_, .f32⟩
  | .hbm, ⟨33, _⟩ => ⟨S128x512x1024, .f32⟩
  | .hbm, ⟨34, _⟩ => ⟨S128x512x1024, .f32⟩
  | .hbm, ⟨35, _⟩ => ⟨S128x512x1024, .f32⟩
  | .hbm, ⟨36, _⟩ => ⟨S128x512x1024, .f32⟩
  | .hbm, ⟨37, _⟩ => ⟨S_, .f32⟩
  | .hbm, ⟨38, _⟩ => ⟨S128x512x1024, .f32⟩
  | .hbm, ⟨39, _⟩ => ⟨S128x512x1024, .f32⟩
  | .hbm, ⟨40, _⟩ => ⟨S_, .f32⟩
  | .hbm, ⟨41, _⟩ => ⟨S128x512x1024, .f32⟩
  | .hbm, ⟨42, _⟩ => ⟨S128x512x1024, .f32⟩
  | .hbm, ⟨43, _⟩ => ⟨S128x512x1024, .f32⟩
  | .hbm, ⟨44, _⟩ => ⟨S_, .f32⟩
  | .hbm, ⟨45, _⟩ => ⟨S128x512x1024, .f32⟩
  | .hbm, ⟨46, _⟩ => ⟨S128x512x1024, .f32⟩
  | .hbm, ⟨47, _⟩ => ⟨S128x512x1024, .f32⟩
  | .hbm, ⟨48, _⟩ => ⟨S32x1024x4096, .f32⟩
  | .hbm, ⟨49, _⟩ => ⟨S128x1, .i32⟩
  | .hbm, ⟨50, _⟩ => ⟨S128x1024x4096, .f32⟩
  | .hbm, ⟨51, _⟩ => ⟨S128x512x4096, .f32⟩
  | .hbm, ⟨52, _⟩ => ⟨S32x4096, .f32⟩
  | .hbm, ⟨53, _⟩ => ⟨S128x1, .i32⟩
  | .hbm, ⟨54, _⟩ => ⟨S128x4096, .f32⟩
  | .hbm, ⟨55, _⟩ => ⟨S128x1x4096, .f32⟩
  | .hbm, ⟨56, _⟩ => ⟨S128x512x4096, .f32⟩
  | .hbm, ⟨57, _⟩ => ⟨S128x512x4096, .f32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S128x1x1, .i1⟩
  | .hbm, ⟨66, _⟩ => ⟨S128x512x4096, .i1⟩
  | .hbm, ⟨67, _⟩ => ⟨S_, .f32⟩
  | .hbm, ⟨68, _⟩ => ⟨S128x512x4096, .f32⟩
  | .hbm, ⟨69, _⟩ => ⟨S128x512x4096, .f32⟩
  | .hbm, ⟨70, _⟩ => ⟨S65536x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Proof.Mat.lean ====
/- What the projections share: a weight block that is converted once per column of the grid and kept for the points that
   follow (`carried`), and the product of a row block with it (used by the Mat… modules, one per projection). -/
module

public import Idealize.ShloMosaic.Lib.Pipeline.Value
public import Idealize.ShloMosaic.Lib.Pointwise
public import Idealize.ShloMosaic.Lib.IdealHost
public import Idealize.ShloMosaic.Lib.ValueIdx
public import Idealize.ShloMosaic.Lib.StackMember

@[expose] public section

noncomputable section

namespace Cert.Mat

/-- A run that refreshes its carried value from the current block at the points divisible by `P` and keeps it at the others,
    the block being the same as the point before's there: the carried value is always the current block's. -/
theorem carried {α β γ : Type} {N : ℕ} (P : ℕ) (f : (n : ℕ) → n < N → α × β) (blk : (n : ℕ) → n < N → γ) (conv : γ → β)
    (out : (n : ℕ) → n < N → β → α)
    (hA : ∀ n h, n % P = 0 → f n h = (out n h (conv (blk n h)), conv (blk n h)))
    (hB : ∀ n h, ¬n % P = 0 → f n h = (out n h (f (n - 1) (by omega)).2, (f (n - 1) (by omega)).2))
    (hblk : ∀ n h, ¬n % P = 0 → blk n h = blk (n - 1) (by omega)) :
    ∀ n h, f n h = (out n h (conv (blk n h)), conv (blk n h)) := by
  intro n
  induction n with
  | zero => intro h; exact hA 0 h (Nat.zero_mod P)
  | succ n ih =>
    intro h
    by_cases h0 : (n + 1) % P = 0
    · exact hA _ h h0
    · rw [hB _ h h0, hblk _ h h0]
      exact congrArg (fun z => (out (n + 1) h z.2, z.2)) (ih (by omega))

open Idealize.ShloMosaic in
/-- Row `r` of `x` with column `j` of the weight `w` (a stack of one matrix). -/
def rowCol {M K N : ℕ} (x : (⟨2, ![M, K]⟩ : Shape).Idx → EReal) (w : (⟨3, ![1, K, N]⟩ : Shape).Idx → EReal) (r : Fin M) (j : Fin N) :
    EReal :=
  ∑ k : Fin K, x (ix2 r k) * w (ix3 0 k j)

open Idealize.ShloMosaic in
/-- A row and a column read off the blocks that hold them. -/
theorem rowCol_congr {M K N M' N' : ℕ} {x : (⟨2, ![M, K]⟩ : Shape).Idx → EReal} {w : (⟨3, ![1, K, N]⟩ : Shape).Idx → EReal}
    {x' : (⟨2, ![M', K]⟩ : Shape).Idx → EReal} {w' : (⟨3, ![1, K, N']⟩ : Shape).Idx → EReal} {r : Fin M} {j : Fin N} {r' : Fin M'} {j' : Fin N'}
    (hx : ∀ k, x (ix2 r k) = x' (ix2 r' k)) (hw : ∀ k, w (ix3 0 k j) = w' (ix3 0 k j')) : rowCol x w r j = rowCol x' w' r' j' :=
  Finset.sum_congr rfl fun k _ => by rw [hx, hw]

open Idealize.ShloMosaic in
/-- The plain product with the one matrix of a stack, read at an index. -/
theorem dotGeneral_rowCol {M K N : ℕ} (x : FVec Ideal ⟨2, ![M, K]⟩ .f32) (w : FVec Ideal ⟨3, ![1, K, N]⟩ .f32)
    (h : (⟨3, ![1, K, N]⟩ : Shape).ShapeCasts ⟨2, ![K, N]⟩) (i : (⟨2, ![M, N]⟩ : Shape).Idx) :
    Host.dotGeneral (DotDims.plain M K N) none x (shapeCast ⟨2, ![K, N]⟩ w h) i = rowCol x w (i 0) (i 1) := by
  obtain ⟨r, j, rfl⟩ : ∃ (r : Fin M) (j : Fin N), i = ValueIdx.ix2 r j := ⟨i 0, i 1, ValueIdx.eq_ix2 i⟩
  refine (StackMember.dotGeneral_plain_apply none x _ r j).trans ?_
  show _ = rowCol x w r j
  refine Finset.sum_congr rfl fun k _ => ?_
  refine congrArg₂ (· * ·) (congrArg x (by funext a; match a with | ⟨0, _⟩ => rfl | ⟨1, _⟩ => rfl)) ?_
  refine (shapeCast_apply w h _ (ix3 0 k j) ?_)
  rw [Shape.rowMajor_val_three, Shape.rowMajor_val_two]
  show (0 * K + k.val) * N + j.val = k.val * N + j.val
  rw [Nat.zero_mul, Nat.zero_add]

open Idealize.ShloMosaic in
/-- A bias read through the reshape that gives it the grid's third axis. -/
theorem bias_apply {N : ℕ} (b : (⟨2, ![1, N]⟩ : Shape).Idx → EReal) (h : (⟨2, ![1, N]⟩ : Shape).ShapeCasts ⟨3, ![1, 1, N]⟩) (j : Fin N) :
    shapeCast ⟨3, ![1, 1, N]⟩ b h (ix3 0 0 j) = b (ix2 0 j) := by
  refine (shapeCast_apply b h _ (ValueIdx.ix2 0 j) ?_).trans (congrArg b (by funext a; match a with | ⟨0, _⟩ => rfl | ⟨1, _⟩ => rfl))
  rw [Shape.rowMajor_val_three, Shape.rowMajor_val_two]
  show 0 * N + j.val = (0 * 1 + 0) * N + j.val
  simp only [Nat.zero_mul, Nat.zero_add]

open Idealize.ShloMosaic in
/-- A bias spread over the rows, as the host spreads it. -/
theorem biasRows_apply {M N : ℕ} (hN : N ≠ 1) (b : (⟨2, ![1, N]⟩ : Shape).Idx → EReal) (h : (⟨2, ![1, N]⟩ : Shape).ShapeCasts ⟨1, ![N]⟩)
    (h1 : (⟨1, ![N]⟩ : Shape).BroadcastsInDim ⟨2, ![1, N]⟩ ![1]) (h2 : (⟨2, ![1, N]⟩ : Shape).BroadcastsInDim ⟨2, ![M, N]⟩ ![0, 1])
    (i : (⟨2, ![M, N]⟩ : Shape).Idx) :
    broadcastInDim ⟨2, ![M, N]⟩ ![0, 1] h2 (broadcastInDim ⟨2, ![1, N]⟩ ![1] h1 (shapeCast ⟨1, ![N]⟩ b h)) i = b (ix2 0 (i 1)) := by
  obtain ⟨r, j, rfl⟩ : ∃ (r : Fin M) (j : Fin N), i = ValueIdx.ix2 r j := ⟨i 0, i 1, ValueIdx.eq_ix2 i⟩
  have e2 := broadcastInDim_apply ![0, 1] h2 (broadcastInDim ⟨2, ![1, N]⟩ ![1] h1 (shapeCast ⟨1, ![N]⟩ b h)) (ValueIdx.ix2 r j) (ValueIdx.ix2 0 j) (by
    intro a
    match a with
    | ⟨0, _⟩ => exact (if_pos rfl).symm
    | ⟨1, _⟩ => exact (if_neg hN).symm)
  have e1 := broadcastInDim_apply ![1] h1 (shapeCast ⟨1, ![N]⟩ b h) (ValueIdx.ix2 0 j) (ValueIdx.ix1 j) (by
    intro a
    match a with
    | ⟨0, _⟩ => exact (if_neg hN).symm)
  have e0 := shapeCast_apply b h (ValueIdx.ix1 j) (ValueIdx.ix2 0 j) (by
    rw [Shape.rowMajor_val_two, Shape.rowMajor_val_one]
    show 0 * N + j.val = j.val
    rw [Nat.zero_mul, Nat.zero_add])
  rw [e2, e1, e0]
  exact congrArg b (by funext a; match a with | ⟨0, _⟩ => rfl | ⟨1, _⟩ => rfl)

end Cert.Mat

end
-- ==== Proof.Mat2.lean ====
module

public import proofs.«01_k».proof.Proof.Gen.Kernel2Ideal.Frame
public import proofs.«01_k».proof.Proof.Gen.Reference2Ideal.Run
public import proofs.«01_k».proof.Proof.Mat
public import proofs.«01_k».proof.Defs
public import Idealize.ShloMosaic.Lib.Quiescent

@[expose] public section

set_option maxRecDepth 16384

noncomputable section

namespace Cert.Kernel2Ideal.Prod

open Cert.Kernel2Ideal Cert.Kernel2Ideal.Gen Idealize.ShloMosaic Idealize.ShloMosaic.TcCoe Idealize.SL.Sem Idealize.ShloMosaic.Tactic

theorem z2 : (![0, 0] : Fin 2 → ℕ) = fun _ => 0 := by decide
theorem z3 : (![0, 0, 0] : Fin 3 → ℕ) = fun _ => 0 := by decide

theorem out_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : cond0_0 i)
    (x : Vec Ideal S1024x4096 .bf16) (w : Vec Ideal S1x4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x512) z2]
  simp only [View.readAt_eq_ld, h2.read_unread, h3.read_unread, View.ld_unit_zero (S := S1024x4096) z2, View.ld_unit_zero (S := S1x4096x512) z3]
  rw [View.readCov_unit_zero (S := S4096x512) _ z2]

theorem sout_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : cond0_0 i)
    (x : Vec Ideal S1024x4096 .bf16) (w : Vec Ideal S1x4096x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) z2]
  simp only [View.readAt_eq_ld, h3.read_unread, View.ld_unit_zero (S := S1x4096x512) z3]

theorem out_B (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : ¬cond0_0 i)
    (x : Vec Ideal S1024x4096 .bf16) (w : Vec Ideal S1x4096x512 .f32) (s : Vec Ideal S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S1024x512) z2]
  simp only [View.readAt_eq_ld, h2.read_unread, h5.read_unread, View.ld_unit_zero (S := S1024x4096) z2, View.ld_unit_zero (S := S4096x512) z2]

theorem prod_apply (x : Vec Ideal S1024x4096 .bf16) (w : Vec Ideal S1x4096x512 .f32) (y : S1024x512.Idx) :
    k0_pay2 x (k0_pay1 w) y = ∑ k : Fin 4096, x (ix2 (y 0) k) * w (ix3 0 k (y 1)) := by
  unfold k0_pay2 k0_pay1
  pointwise

variable (m : (ℓ : Loc nD τ sig) → Buf (Elt Ideal) ℓ) (c : Dev nD)

theorem index0 : ∀ t : Fin grid0.N, win0_0.index t 0 = t.val % 12 ∧ win0_0.index t 1 = 0 := by decide +kernel
theorem index1 : ∀ t : Fin grid0.N, win0_1.index t 0 = 0 ∧ win0_1.index t 1 = 0 ∧ win0_1.index t 2 = t.val / 12 := by decide +kernel
theorem index2 : ∀ t : Fin grid0.N, win0_2.index t 0 = t.val % 12 ∧ win0_2.index t 1 = t.val / 12 := by decide +kernel

/-- The product, as the certificate states it: row `i 0` of the tokens with column `i 1` of the weight. -/
def G : Buf (Elt Ideal) ((c : Thread nD τ).loc main_v1) := fun i => Mat.rowCol (V m c main_v0) (V m c main_arg1) (i 0) (i 1)

theorem iblk0_apply (t : Fin cfg0.N) (r : Fin 1024) (k : Fin 4096) (R : Fin 12288) (h : R.val = t.val % 12 * 1024 + r.val) :
    iblk m c 0 t (ix2 r k) = V m c main_v0 (ix2 R k) := by
  unfold iblk
  rw [View.read_apply]
  refine congrArg (V m c main_v0) (funext fun a => Fin.ext ?_)
  show win0_0.index t a * _ + 1 * _ = _
  obtain ⟨h0, h1⟩ := index0 t
  match a with
  | ⟨0, _⟩ => exact (congrArg (· * 1024 + 1 * r.val) h0).trans (by rw [Nat.one_mul]; exact h.symm)
  | ⟨1, _⟩ => exact (congrArg (· * 4096 + 1 * k.val) h1).trans (by exact (Nat.zero_add _).trans (Nat.one_mul _))

theorem iblk1_apply (t : Fin cfg0.N) (k : Fin 4096) (j : Fin 512) (J : Fin 5120) (h : J.val = t.val / 12 * 512 + j.val) :
    iblk m c 1 t (ix3 0 k j) = V m c main_arg1 (ix3 0 k J) := by
  unfold iblk
  rw [View.read_apply]
  refine congrArg (V m c main_arg1) (funext fun a => Fin.ext ?_)
  show win0_1.index t a * _ + 1 * _ = _
  obtain ⟨h0, h1, h2⟩ := index1 t
  match a with
  | ⟨0, _⟩ => exact (congrArg (· * 1 + 1 * (0 : Fin 1).val) h0).trans (by exact (Nat.zero_add _).trans (Nat.one_mul _))
  | ⟨1, _⟩ => exact (congrArg (· * 4096 + 1 * k.val) h1).trans (by exact (Nat.zero_add _).trans (Nat.one_mul _))
  | ⟨2, _⟩ => exact (congrArg (· * 512 + 1 * j.val) h2).trans (by rw [Nat.one_mul]; exact h.symm)

theorem iblk1_same (t t' : Fin cfg0.N) (h : t.val / 12 = t'.val / 12) : iblk m c 1 t = iblk m c 1 t' := by
  have hN : cfg0.N = 120 := N_0
  have ht := t.isLt
  funext y
  obtain ⟨y0, k, j, rfl⟩ : ∃ (y0 : Fin 1) (k : Fin 4096) (j : Fin 512), y = ix3 y0 k j := ⟨y 0, y 1, y 2, by funext a; match a with | ⟨0, _⟩ => rfl | ⟨1, _⟩ => rfl | ⟨2, _⟩ => rfl⟩
  obtain rfl : y0 = 0 := Subsingleton.elim _ _
  exact (iblk1_apply m c t k j ⟨t.val / 12 * 512 + j.val, by omega⟩ rfl).trans (iblk1_apply m c t' k j _ (by rw [← h])).symm

theorem outs (t : Fin cfg0.N) : outsAt0 m c t.val t.isLt = (k0_pay2 (iblk m c 0 t) (k0_pay1 (iblk m c 1 t)), k0_pay1 (iblk m c 1 t)) := by
  have hA : ∀ n h, n % 12 = 0 → outsAt0 m c n h = (k0_pay2 (iblk m c 0 ⟨n, h⟩) (k0_pay1 (iblk m c 1 ⟨n, h⟩)), k0_pay1 (iblk m c 1 ⟨n, h⟩)) := by
    intro n h h0
    have e := outsAt0_A m c ⟨n, h⟩ h0
    rw [out_A, sout_A] at e
    exact e
  have hB : ∀ n h, ¬n % 12 = 0 → outsAt0 m c n h = (k0_pay2 (iblk m c 0 ⟨n, h⟩) (outsAt0 m c (n - 1) (by omega)).2, (outsAt0 m c (n - 1) (by omega)).2) := by
    intro n h h0
    have e := outsAt0_B m c ⟨n, h⟩ h0
    rw [out_B] at e
    exact e
  exact Mat.carried (α := Vec Ideal S1024x512 .f32) (β := Vec Ideal S4096x512 .bf16) (γ := Vec Ideal S1x4096x512 .f32) 12 (outsAt0 m c) (fun n h => iblk m c 1 ⟨n, h⟩) k0_pay1 (fun n h s => k0_pay2 (iblk m c 0 ⟨n, h⟩) s) hA hB
    (fun n h h0 => iblk1_same m c _ _ (by show n / 12 = (n - 1) / 12; omega)) t.val t.isLt

theorem arr : (dats m 0 c).arrAt 2 cfg0.N = G m c := by
  have hN : cfg0.N = 120 := N_0
  refine (dats m 0 c).arrAt_eq_of_cover 2 (G m c) (fun t _ => ?_) fun i => ?_
  · show (cfg0.win 2).cut (grid0.coords t) ((dats m 0 c).after 2 t) = _
    rw [after0_2, outs]
    have ht := t.isLt
    funext y
    rw [View.read_apply]
    refine (prod_apply _ _ y).trans ?_
    obtain ⟨h0, h1⟩ := index2 t
    have e0 : ((((cfg0.win 2).blk t).view.emb y 0 : Fin 12288)).val = t.val % 12 * 1024 + (y 0).val :=
      (congrArg (· * 1024 + 1 * (y 0).val) h0).trans (by rw [Nat.one_mul])
    have e1 : ((((cfg0.win 2).blk t).view.emb y 1 : Fin 5120)).val = t.val / 12 * 512 + (y 1).val :=
      (congrArg (· * 512 + 1 * (y 1).val) h1).trans (by rw [Nat.one_mul])
    exact Mat.rowCol_congr (fun k => iblk0_apply m c t (y 0) k _ e0) fun k => iblk1_apply m c t k (y 1) _ e1
  · have hi0 : (i 0).val < 12288 := (i 0).isLt
    have hi1 : (i 1).val < 5120 := (i 1).isLt
    have ht : (i 1).val / 512 * 12 + (i 0).val / 1024 < cfg0.N := by omega
    refine ⟨⟨_, ht⟩, flush0_2 _, ?_⟩
    obtain ⟨h0, h1⟩ := index2 ⟨_, ht⟩
    show i ∈ ((View.whole main_v1).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; rw [h0]; dsimp only; omega
    | ⟨1, _⟩ => show win0_2.index ⟨_, ht⟩ 1 * 512 ≤ (i 1).val ∧ (i 1).val < win0_2.index ⟨_, ht⟩ 1 * 512 + 512; rw [h1]; dsimp only; omega

theorem V_v0 : V m c main_v0 = m ((c : Thread nD τ).loc main_arg0) := by
  show StableHlo.after hostOps0 _ _ = _
  after_results
  rfl

/-- The keys' columns of a product `z`, as the host operations after the region take them. -/
def keys (z : Vec Ideal S12288x5120 .f32) : Vec Ideal S16x1x256x8x64 .f32 :=
  shapeCast _ (extractStridedSlice S16x1x256x1x8x64 ![0, 0, 0, 0, 0, 0] (shapeCast _ (extractStridedSlice S4096x1024 ![0, 4096] z Facts₀.slices_S12288x5120_S4096x1024_0_4096) Facts₀.shapeCasts_S4096x1024_S16x1x256x2x8x64) Facts₀.slices_S16x1x256x2x8x64_S16x1x256x1x8x64_0_0_0_0_0_0) Facts₀.shapeCasts_S16x1x256x1x8x64_S16x1x256x8x64

/-- The values' columns. -/
def vals (z : Vec Ideal S12288x5120 .f32) : Vec Ideal S16x1x256x8x64 .f32 :=
  shapeCast _ (extractStridedSlice S16x1x256x1x8x64 ![0, 0, 0, 1, 0, 0] (shapeCast _ (extractStridedSlice S4096x1024 ![0, 4096] z Facts₀.slices_S12288x5120_S4096x1024_0_4096) Facts₀.shapeCasts_S4096x1024_S16x1x256x2x8x64) Facts₀.slices_S16x1x256x2x8x64_S16x1x256x1x8x64_0_0_0_1_0_0) Facts₀.shapeCasts_S16x1x256x1x8x64_S16x1x256x8x64

theorem withArrays_z : Pipeline.withArrays (cfgs 0).spec c (V0 m c) (fun w => (dats m 0 c).arrAt w (cfgs 0).N) (Proc.devRef .tc main_v1) = G m c :=
  (Pipeline.withArrays_arr spec0 winFacts0.arr_inj c _ _ 2).trans (arr m c)

theorem tail_keys : Pipeline.afterTail₀ cfgs (dats m) 0 (V0 m) [hostOps1] c main_v5 = keys (G m c) := by
  unfold Pipeline.afterTail₀
  show StableHlo.after hostOps1 _ _ = _
  after_results
  exact congrArg keys (withArrays_z m c)

theorem tail_vals : Pipeline.afterTail₀ cfgs (dats m) 0 (V0 m) [hostOps1] c main_v7 = vals (G m c) := by
  unfold Pipeline.afterTail₀
  show StableHlo.after hostOps1 _ _ = _
  after_results
  exact congrArg vals (withArrays_z m c)

theorem value (ρ : Dev nD → PrngReg) : θ_run defs (onTc (τ := τ) (main (F := Ideal))) ⟨m, fun _ => 0, ρ⟩ fun r => ∀ c : Dev nD,
    r.2.mem ((c.tc : Thread nD τ).loc main_v1) = G m c
    ∧ r.2.mem ((c.tc : Thread nD τ).loc main_v5) = keys (G m c)
    ∧ r.2.mem ((c.tc : Thread nD τ).loc main_v7) = vals (G m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h.1 c).1 2).trans (arr m c),
      ((h.1 c).2 main_v5 (Pipeline.mem_restRefs_of main_v5 (by decide) (by decide))).trans (tail_keys m c),
      ((h.1 c).2 main_v7 (Pipeline.mem_restRefs_of main_v7 (by decide) (by decide))).trans (tail_vals m c), h.2 c⟩)
    (θ_run_and (run_main m ρ) (unchanged m ρ))

end Cert.Kernel2Ideal.Prod

namespace Cert

open Cert.Kernel2Ideal Cert.Kernel2Ideal.Gen Idealize.ShloMosaic Idealize.ShloMosaic.TcCoe Idealize.SL.Sem Idealize.ShloMosaic.Tactic

theorem algebraic2 : Cert.algebraic_Kernel2Ideal_Reference2Ideal := by
  intro m ρ m' ρ' _ hagree
  refine ⟨_, _, _, Kernel2Ideal.Prod.value m ρ, ?_⟩
  refine (θ_run Cert.Reference2Ideal.defs _ _).mono (fun _ h c => ?_) (Cert.Reference2Ideal.Value.run (F := Ideal) m' ρ')
  obtain ⟨h1, h2, h3, h4⟩ := h c
  rw [← h1] at h2 h3
  have hz := h1.trans (b := _) (c := Kernel2Ideal.Prod.G m c) (by
    rw [(hagree c).1, (hagree c).2]
    funext i
    refine (Mat.dotGeneral_rowCol _ _ _ i).trans ?_
    unfold Kernel2Ideal.Prod.G
    rw [Kernel2Ideal.Prod.V_v0, V_main_arg1])
  rw [hz] at h2 h3
  refine ⟨hz, h2.trans ?_, h3.trans ?_, h4⟩
  · unfold Kernel2Ideal.Prod.keys
    generalize Kernel2Ideal.Prod.G m c = z
    funext i
    pointwise
  · unfold Kernel2Ideal.Prod.vals
    generalize Kernel2Ideal.Prod.G m c = z
    funext i
    pointwise
    exact congrArg (fun j => z (ix2 _ j)) (Fin.ext (by dsimp only; omega))

end Cert
-- ==== Proof.Mat3.lean ====
module

public import proofs.«01_k».proof.Proof.Gen.Kernel3Ideal.Frame
public import proofs.«01_k».proof.Proof.Gen.Reference3Ideal.Run
public import proofs.«01_k».proof.Proof.Mat
public import proofs.«01_k».proof.Defs
public import Idealize.ShloMosaic.Lib.Quiescent

@[expose] public section

set_option maxRecDepth 16384

noncomputable section

namespace Cert.Kernel3Ideal.Prod

open Cert.Kernel3Ideal Cert.Kernel3Ideal.Gen Idealize.ShloMosaic Idealize.ShloMosaic.TcCoe Idealize.SL.Sem Idealize.ShloMosaic.Tactic

theorem z2 : (![0, 0] : Fin 2 → ℕ) = fun _ => 0 := by decide
theorem z3 : (![0, 0, 0] : Fin 3 → ℕ) = fun _ => 0 := by decide

theorem out_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : cond0_0 i)
    (x : Vec Ideal S1024x4096 .bf16) (w : Vec Ideal S1x4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x512) z2]
  simp only [View.readAt_eq_ld, h2.read_unread, h3.read_unread, View.ld_unit_zero (S := S1024x4096) z2, View.ld_unit_zero (S := S1x4096x512) z3]
  rw [View.readCov_unit_zero (S := S4096x512) _ z2]

theorem sout_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : cond0_0 i)
    (x : Vec Ideal S1024x4096 .bf16) (w : Vec Ideal S1x4096x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) z2]
  simp only [View.readAt_eq_ld, h3.read_unread, View.ld_unit_zero (S := S1x4096x512) z3]

theorem out_B (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : ¬cond0_0 i)
    (x : Vec Ideal S1024x4096 .bf16) (w : Vec Ideal S1x4096x512 .f32) (s : Vec Ideal S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S1024x512) z2]
  simp only [View.readAt_eq_ld, h2.read_unread, h5.read_unread, View.ld_unit_zero (S := S1024x4096) z2, View.ld_unit_zero (S := S4096x512) z2]

theorem prod_apply (x : Vec Ideal S1024x4096 .bf16) (w : Vec Ideal S1x4096x512 .f32) (y : S1024x512.Idx) :
    k0_pay2 x (k0_pay1 w) y = ∑ k : Fin 4096, x (ix2 (y 0) k) * w (ix3 0 k (y 1)) := by
  unfold k0_pay2 k0_pay1
  pointwise

variable (m : (ℓ : Loc nD τ sig) → Buf (Elt Ideal) ℓ) (c : Dev nD)

theorem index0 : ∀ t : Fin grid0.N, win0_0.index t 0 = t.val % 12 ∧ win0_0.index t 1 = 0 := by decide +kernel
theorem index1 : ∀ t : Fin grid0.N, win0_1.index t 0 = 0 ∧ win0_1.index t 1 = 0 ∧ win0_1.index t 2 = t.val / 12 := by decide +kernel
theorem index2 : ∀ t : Fin grid0.N, win0_2.index t 0 = t.val % 12 ∧ win0_2.index t 1 = t.val / 12 := by decide +kernel

/-- The product, as the certificate states it: row `i 0` of the tokens with column `i 1` of the weight. -/
def G : Buf (Elt Ideal) ((c : Thread nD τ).loc main_v1) := fun i => Mat.rowCol (V m c main_v0) (V m c main_arg1) (i 0) (i 1)

theorem iblk0_apply (t : Fin cfg0.N) (r : Fin 1024) (k : Fin 4096) (R : Fin 12288) (h : R.val = t.val % 12 * 1024 + r.val) :
    iblk m c 0 t (ix2 r k) = V m c main_v0 (ix2 R k) := by
  unfold iblk
  rw [View.read_apply]
  refine congrArg (V m c main_v0) (funext fun a => Fin.ext ?_)
  show win0_0.index t a * _ + 1 * _ = _
  obtain ⟨h0, h1⟩ := index0 t
  match a with
  | ⟨0, _⟩ => exact (congrArg (· * 1024 + 1 * r.val) h0).trans (by rw [Nat.one_mul]; exact h.symm)
  | ⟨1, _⟩ => exact (congrArg (· * 4096 + 1 * k.val) h1).trans (by exact (Nat.zero_add _).trans (Nat.one_mul _))

theorem iblk1_apply (t : Fin cfg0.N) (k : Fin 4096) (j : Fin 512) (J : Fin 4096) (h : J.val = t.val / 12 * 512 + j.val) :
    iblk m c 1 t (ix3 0 k j) = V m c main_arg1 (ix3 0 k J) := by
  unfold iblk
  rw [View.read_apply]
  refine congrArg (V m c main_arg1) (funext fun a => Fin.ext ?_)
  show win0_1.index t a * _ + 1 * _ = _
  obtain ⟨h0, h1, h2⟩ := index1 t
  match a with
  | ⟨0, _⟩ => exact (congrArg (· * 1 + 1 * (0 : Fin 1).val) h0).trans (by exact (Nat.zero_add _).trans (Nat.one_mul _))
  | ⟨1, _⟩ => exact (congrArg (· * 4096 + 1 * k.val) h1).trans (by exact (Nat.zero_add _).trans (Nat.one_mul _))
  | ⟨2, _⟩ => exact (congrArg (· * 512 + 1 * j.val) h2).trans (by rw [Nat.one_mul]; exact h.symm)

theorem iblk1_same (t t' : Fin cfg0.N) (h : t.val / 12 = t'.val / 12) : iblk m c 1 t = iblk m c 1 t' := by
  have hN : cfg0.N = 96 := N_0
  have ht := t.isLt
  funext y
  obtain ⟨y0, k, j, rfl⟩ : ∃ (y0 : Fin 1) (k : Fin 4096) (j : Fin 512), y = ix3 y0 k j := ⟨y 0, y 1, y 2, by funext a; match a with | ⟨0, _⟩ => rfl | ⟨1, _⟩ => rfl | ⟨2, _⟩ => rfl⟩
  obtain rfl : y0 = 0 := Subsingleton.elim _ _
  exact (iblk1_apply m c t k j ⟨t.val / 12 * 512 + j.val, by omega⟩ rfl).trans (iblk1_apply m c t' k j _ (by rw [← h])).symm

theorem outs (t : Fin cfg0.N) : outsAt0 m c t.val t.isLt = (k0_pay2 (iblk m c 0 t) (k0_pay1 (iblk m c 1 t)), k0_pay1 (iblk m c 1 t)) := by
  have hA : ∀ n h, n % 12 = 0 → outsAt0 m c n h = (k0_pay2 (iblk m c 0 ⟨n, h⟩) (k0_pay1 (iblk m c 1 ⟨n, h⟩)), k0_pay1 (iblk m c 1 ⟨n, h⟩)) := by
    intro n h h0
    have e := outsAt0_A m c ⟨n, h⟩ h0
    rw [out_A, sout_A] at e
    exact e
  have hB : ∀ n h, ¬n % 12 = 0 → outsAt0 m c n h = (k0_pay2 (iblk m c 0 ⟨n, h⟩) (outsAt0 m c (n - 1) (by omega)).2, (outsAt0 m c (n - 1) (by omega)).2) := by
    intro n h h0
    have e := outsAt0_B m c ⟨n, h⟩ h0
    rw [out_B] at e
    exact e
  exact Mat.carried (α := Vec Ideal S1024x512 .f32) (β := Vec Ideal S4096x512 .bf16) (γ := Vec Ideal S1x4096x512 .f32) 12 (outsAt0 m c) (fun n h => iblk m c 1 ⟨n, h⟩) k0_pay1 (fun n h s => k0_pay2 (iblk m c 0 ⟨n, h⟩) s) hA hB
    (fun n h h0 => iblk1_same m c _ _ (by show n / 12 = (n - 1) / 12; omega)) t.val t.isLt

theorem arr : (dats m 0 c).arrAt 2 cfg0.N = G m c := by
  have hN : cfg0.N = 96 := N_0
  refine (dats m 0 c).arrAt_eq_of_cover 2 (G m c) (fun t _ => ?_) fun i => ?_
  · show (cfg0.win 2).cut (grid0.coords t) ((dats m 0 c).after 2 t) = _
    rw [after0_2, outs]
    have ht := t.isLt
    funext y
    rw [View.read_apply]
    refine (prod_apply _ _ y).trans ?_
    obtain ⟨h0, h1⟩ := index2 t
    have e0 : ((((cfg0.win 2).blk t).view.emb y 0 : Fin 12288)).val = t.val % 12 * 1024 + (y 0).val :=
      (congrArg (· * 1024 + 1 * (y 0).val) h0).trans (by rw [Nat.one_mul])
    have e1 : ((((cfg0.win 2).blk t).view.emb y 1 : Fin 4096)).val = t.val / 12 * 512 + (y 1).val :=
      (congrArg (· * 512 + 1 * (y 1).val) h1).trans (by rw [Nat.one_mul])
    exact Mat.rowCol_congr (fun k => iblk0_apply m c t (y 0) k _ e0) fun k => iblk1_apply m c t k (y 1) _ e1
  · have hi0 : (i 0).val < 12288 := (i 0).isLt
    have hi1 : (i 1).val < 4096 := (i 1).isLt
    have ht : (i 1).val / 512 * 12 + (i 0).val / 1024 < cfg0.N := by omega
    refine ⟨⟨_, ht⟩, flush0_2 _, ?_⟩
    obtain ⟨h0, h1⟩ := index2 ⟨_, ht⟩
    show i ∈ ((View.whole main_v1).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; rw [h0]; dsimp only; omega
    | ⟨1, _⟩ => show win0_2.index ⟨_, ht⟩ 1 * 512 ≤ (i 1).val ∧ (i 1).val < win0_2.index ⟨_, ht⟩ 1 * 512 + 512; rw [h1]; dsimp only; omega

theorem V_v0 : V m c main_v0 = m ((c : Thread nD τ).loc main_arg0) := by
  show StableHlo.after hostOps0 _ _ = _
  after_results
  rfl

theorem value (ρ : Dev nD → PrngReg) : θ_run defs (onTc (τ := τ) (main (F := Ideal))) ⟨m, fun _ => 0, ρ⟩ fun r => ∀ c : Dev nD,
    r.2.mem ((c.tc : Thread nD τ).loc main_v1) = G m c
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h.1 c).1 2).trans (arr m c), h.2 c⟩) (θ_run_and (run_main m ρ) (unchanged m ρ))

end Cert.Kernel3Ideal.Prod

namespace Cert

open Cert.Kernel3Ideal Cert.Kernel3Ideal.Gen Idealize.ShloMosaic Idealize.ShloMosaic.TcCoe Idealize.SL.Sem Idealize.ShloMosaic.Tactic

theorem algebraic3 : Cert.algebraic_Kernel3Ideal_Reference3Ideal := by
  intro m ρ m' ρ' _ hagree
  refine ⟨_, Kernel3Ideal.Prod.value m ρ, ?_⟩
  refine (θ_run Cert.Reference3Ideal.defs _ _).mono (fun _ h c => ⟨(h c).1.trans ?_, (h c).2⟩) (Cert.Reference3Ideal.Value.run (F := Ideal) m' ρ')
  rw [(hagree c).1, (hagree c).2]
  funext i
  refine (Mat.dotGeneral_rowCol _ _ _ i).trans ?_
  unfold Kernel3Ideal.Prod.G
  rw [Kernel3Ideal.Prod.V_v0, V_main_arg1]

end Cert
-- ==== Proof.Mat4.lean ====
module

public import proofs.«01_k».proof.Proof.Gen.Kernel4Ideal.Frame
public import proofs.«01_k».proof.Proof.Gen.Reference4Ideal.Run
public import proofs.«01_k».proof.Proof.Mat
public import proofs.«01_k».proof.Defs
public import Idealize.ShloMosaic.Lib.Quiescent

@[expose] public section

set_option maxRecDepth 16384

noncomputable section

namespace Cert.Kernel4Ideal.Prod

open Cert.Kernel4Ideal Cert.Kernel4Ideal.Gen Idealize.ShloMosaic Idealize.ShloMosaic.TcCoe Idealize.SL.Sem Idealize.ShloMosaic.Tactic

theorem z2 : (![0, 0] : Fin 2 → ℕ) = fun _ => 0 := by decide
theorem z3 : (![0, 0, 0] : Fin 3 → ℕ) = fun _ => 0 := by decide

theorem out_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : cond0_0 i)
    (x : Vec Ideal S1024x4096 .bf16) (w : Vec Ideal S1x4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x512) z2]
  simp only [View.readAt_eq_ld, h2.read_unread, h3.read_unread, View.ld_unit_zero (S := S1024x4096) z2, View.ld_unit_zero (S := S1x4096x512) z3]
  rw [View.readCov_unit_zero (S := S4096x512) _ z2]

theorem sout_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : cond0_0 i)
    (x : Vec Ideal S1024x4096 .bf16) (w : Vec Ideal S1x4096x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) z2]
  simp only [View.readAt_eq_ld, h3.read_unread, View.ld_unit_zero (S := S1x4096x512) z3]

theorem out_B (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1024x512 .f32) (h4 : a4.IsWhole) (a5 : Memref sig .tc .vmem S4096x512 .bf16) (h5 : a5.IsWhole) (hc : ¬cond0_0 i)
    (x : Vec Ideal S1024x4096 .bf16) (w : Vec Ideal S1x4096x512 .f32) (s : Vec Ideal S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S1024x512) z2]
  simp only [View.readAt_eq_ld, h2.read_unread, h5.read_unread, View.ld_unit_zero (S := S1024x4096) z2, View.ld_unit_zero (S := S4096x512) z2]

theorem prod_apply (x : Vec Ideal S1024x4096 .bf16) (w : Vec Ideal S1x4096x512 .f32) (y : S1024x512.Idx) :
    k0_pay2 x (k0_pay1 w) y = ∑ k : Fin 4096, x (ix2 (y 0) k) * w (ix3 0 k (y 1)) := by
  unfold k0_pay2 k0_pay1
  pointwise

variable (m : (ℓ : Loc nD τ sig) → Buf (Elt Ideal) ℓ) (c : Dev nD)

theorem index0 : ∀ t : Fin grid0.N, win0_0.index t 0 = t.val % 12 ∧ win0_0.index t 1 = 0 := by decide +kernel
theorem index1 : ∀ t : Fin grid0.N, win0_1.index t 0 = 0 ∧ win0_1.index t 1 = 0 ∧ win0_1.index t 2 = t.val / 12 := by decide +kernel
theorem index2 : ∀ t : Fin grid0.N, win0_2.index t 0 = t.val % 12 ∧ win0_2.index t 1 = t.val / 12 := by decide +kernel

/-- The product, as the certificate states it: row `i 0` of the tokens with column `i 1` of the weight. -/
def G : Buf (Elt Ideal) ((c : Thread nD τ).loc main_v1) := fun i => Mat.rowCol (V m c main_v0) (V m c main_arg1) (i 0) (i 1)

theorem iblk0_apply (t : Fin cfg0.N) (r : Fin 1024) (k : Fin 4096) (R : Fin 12288) (h : R.val = t.val % 12 * 1024 + r.val) :
    iblk m c 0 t (ix2 r k) = V m c main_v0 (ix2 R k) := by
  unfold iblk
  rw [View.read_apply]
  refine congrArg (V m c main_v0) (funext fun a => Fin.ext ?_)
  show win0_0.index t a * _ + 1 * _ = _
  obtain ⟨h0, h1⟩ := index0 t
  match a with
  | ⟨0, _⟩ => exact (congrArg (· * 1024 + 1 * r.val) h0).trans (by rw [Nat.one_mul]; exact h.symm)
  | ⟨1, _⟩ => exact (congrArg (· * 4096 + 1 * k.val) h1).trans (by exact (Nat.zero_add _).trans (Nat.one_mul _))

theorem iblk1_apply (t : Fin cfg0.N) (k : Fin 4096) (j : Fin 512) (J : Fin 12288) (h : J.val = t.val / 12 * 512 + j.val) :
    iblk m c 1 t (ix3 0 k j) = V m c main_arg1 (ix3 0 k J) := by
  unfold iblk
  rw [View.read_apply]
  refine congrArg (V m c main_arg1) (funext fun a => Fin.ext ?_)
  show win0_1.index t a * _ + 1 * _ = _
  obtain ⟨h0, h1, h2⟩ := index1 t
  match a with
  | ⟨0, _⟩ => exact (congrArg (· * 1 + 1 * (0 : Fin 1).val) h0).trans (by exact (Nat.zero_add _).trans (Nat.one_mul _))
  | ⟨1, _⟩ => exact (congrArg (· * 4096 + 1 * k.val) h1).trans (by exact (Nat.zero_add _).trans (Nat.one_mul _))
  | ⟨2, _⟩ => exact (congrArg (· * 512 + 1 * j.val) h2).trans (by rw [Nat.one_mul]; exact h.symm)

theorem iblk1_same (t t' : Fin cfg0.N) (h : t.val / 12 = t'.val / 12) : iblk m c 1 t = iblk m c 1 t' := by
  have hN : cfg0.N = 288 := N_0
  have ht := t.isLt
  funext y
  obtain ⟨y0, k, j, rfl⟩ : ∃ (y0 : Fin 1) (k : Fin 4096) (j : Fin 512), y = ix3 y0 k j := ⟨y 0, y 1, y 2, by funext a; match a with | ⟨0, _⟩ => rfl | ⟨1, _⟩ => rfl | ⟨2, _⟩ => rfl⟩
  obtain rfl : y0 = 0 := Subsingleton.elim _ _
  exact (iblk1_apply m c t k j ⟨t.val / 12 * 512 + j.val, by omega⟩ rfl).trans (iblk1_apply m c t' k j _ (by rw [← h])).symm

theorem outs (t : Fin cfg0.N) : outsAt0 m c t.val t.isLt = (k0_pay2 (iblk m c 0 t) (k0_pay1 (iblk m c 1 t)), k0_pay1 (iblk m c 1 t)) := by
  have hA : ∀ n h, n % 12 = 0 → outsAt0 m c n h = (k0_pay2 (iblk m c 0 ⟨n, h⟩) (k0_pay1 (iblk m c 1 ⟨n, h⟩)), k0_pay1 (iblk m c 1 ⟨n, h⟩)) := by
    intro n h h0
    have e := outsAt0_A m c ⟨n, h⟩ h0
    rw [out_A, sout_A] at e
    exact e
  have hB : ∀ n h, ¬n % 12 = 0 → outsAt0 m c n h = (k0_pay2 (iblk m c 0 ⟨n, h⟩) (outsAt0 m c (n - 1) (by omega)).2, (outsAt0 m c (n - 1) (by omega)).2) := by
    intro n h h0
    have e := outsAt0_B m c ⟨n, h⟩ h0
    rw [out_B] at e
    exact e
  exact Mat.carried (α := Vec Ideal S1024x512 .f32) (β := Vec Ideal S4096x512 .bf16) (γ := Vec Ideal S1x4096x512 .f32) 12 (outsAt0 m c) (fun n h => iblk m c 1 ⟨n, h⟩) k0_pay1 (fun n h s => k0_pay2 (iblk m c 0 ⟨n, h⟩) s) hA hB
    (fun n h h0 => iblk1_same m c _ _ (by show n / 12 = (n - 1) / 12; omega)) t.val t.isLt

theorem arr : (dats m 0 c).arrAt 2 cfg0.N = G m c := by
  have hN : cfg0.N = 288 := N_0
  refine (dats m 0 c).arrAt_eq_of_cover 2 (G m c) (fun t _ => ?_) fun i => ?_
  · show (cfg0.win 2).cut (grid0.coords t) ((dats m 0 c).after 2 t) = _
    rw [after0_2, outs]
    have ht := t.isLt
    funext y
    rw [View.read_apply]
    refine (prod_apply _ _ y).trans ?_
    obtain ⟨h0, h1⟩ := index2 t
    have e0 : ((((cfg0.win 2).blk t).view.emb y 0 : Fin 12288)).val = t.val % 12 * 1024 + (y 0).val :=
      (congrArg (· * 1024 + 1 * (y 0).val) h0).trans (by rw [Nat.one_mul])
    have e1 : ((((cfg0.win 2).blk t).view.emb y 1 : Fin 12288)).val = t.val / 12 * 512 + (y 1).val :=
      (congrArg (· * 512 + 1 * (y 1).val) h1).trans (by rw [Nat.one_mul])
    exact Mat.rowCol_congr (fun k => iblk0_apply m c t (y 0) k _ e0) fun k => iblk1_apply m c t k (y 1) _ e1
  · have hi0 : (i 0).val < 12288 := (i 0).isLt
    have hi1 : (i 1).val < 12288 := (i 1).isLt
    have ht : (i 1).val / 512 * 12 + (i 0).val / 1024 < cfg0.N := by omega
    refine ⟨⟨_, ht⟩, flush0_2 _, ?_⟩
    obtain ⟨h0, h1⟩ := index2 ⟨_, ht⟩
    show i ∈ ((View.whole main_v1).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; rw [h0]; dsimp only; omega
    | ⟨1, _⟩ => show win0_2.index ⟨_, ht⟩ 1 * 512 ≤ (i 1).val ∧ (i 1).val < win0_2.index ⟨_, ht⟩ 1 * 512 + 512; rw [h1]; dsimp only; omega

theorem V_v0 : V m c main_v0 = m ((c : Thread nD τ).loc main_arg0) := by
  show StableHlo.after hostOps0 _ _ = _
  after_results
  rfl

/-- The keys' columns of a product `z`, as the host operations after the region take them. -/
def keys (z : Vec Ideal S12288x12288 .f32) : Vec Ideal S16x1x256x32x128 .f32 :=
  shapeCast _ (extractStridedSlice S16x1x256x1x32x128 ![0, 0, 0, 0, 0, 0] (shapeCast _ (extractStridedSlice S4096x8192 ![0, 4096] z Facts₀.slices_S12288x12288_S4096x8192_0_4096) Facts₀.shapeCasts_S4096x8192_S16x1x256x2x32x128) Facts₀.slices_S16x1x256x2x32x128_S16x1x256x1x32x128_0_0_0_0_0_0) Facts₀.shapeCasts_S16x1x256x1x32x128_S16x1x256x32x128

/-- The values' columns. -/
def vals (z : Vec Ideal S12288x12288 .f32) : Vec Ideal S16x1x256x32x128 .f32 :=
  shapeCast _ (extractStridedSlice S16x1x256x1x32x128 ![0, 0, 0, 1, 0, 0] (shapeCast _ (extractStridedSlice S4096x8192 ![0, 4096] z Facts₀.slices_S12288x12288_S4096x8192_0_4096) Facts₀.shapeCasts_S4096x8192_S16x1x256x2x32x128) Facts₀.slices_S16x1x256x2x32x128_S16x1x256x1x32x128_0_0_0_1_0_0) Facts₀.shapeCasts_S16x1x256x1x32x128_S16x1x256x32x128

theorem withArrays_z : Pipeline.withArrays (cfgs 0).spec c (V0 m c) (fun w => (dats m 0 c).arrAt w (cfgs 0).N) (Proc.devRef .tc main_v1) = G m c :=
  (Pipeline.withArrays_arr spec0 winFacts0.arr_inj c _ _ 2).trans (arr m c)

theorem tail_keys : Pipeline.afterTail₀ cfgs (dats m) 0 (V0 m) [hostOps1] c main_v5 = keys (G m c) := by
  unfold Pipeline.afterTail₀
  show StableHlo.after hostOps1 _ _ = _
  after_results
  exact congrArg keys (withArrays_z m c)

theorem tail_vals : Pipeline.afterTail₀ cfgs (dats m) 0 (V0 m) [hostOps1] c main_v7 = vals (G m c) := by
  unfold Pipeline.afterTail₀
  show StableHlo.after hostOps1 _ _ = _
  after_results
  exact congrArg vals (withArrays_z m c)

theorem value (ρ : Dev nD → PrngReg) : θ_run defs (onTc (τ := τ) (main (F := Ideal))) ⟨m, fun _ => 0, ρ⟩ fun r => ∀ c : Dev nD,
    r.2.mem ((c.tc : Thread nD τ).loc main_v1) = G m c
    ∧ r.2.mem ((c.tc : Thread nD τ).loc main_v5) = keys (G m c)
    ∧ r.2.mem ((c.tc : Thread nD τ).loc main_v7) = vals (G m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h.1 c).1 2).trans (arr m c),
      ((h.1 c).2 main_v5 (Pipeline.mem_restRefs_of main_v5 (by decide) (by decide))).trans (tail_keys m c),
      ((h.1 c).2 main_v7 (Pipeline.mem_restRefs_of main_v7 (by decide) (by decide))).trans (tail_vals m c), h.2 c⟩)
    (θ_run_and (run_main m ρ) (unchanged m ρ))

end Cert.Kernel4Ideal.Prod

namespace Cert

open Cert.Kernel4Ideal Cert.Kernel4Ideal.Gen Idealize.ShloMosaic Idealize.ShloMosaic.TcCoe Idealize.SL.Sem Idealize.ShloMosaic.Tactic

theorem algebraic4 : Cert.algebraic_Kernel4Ideal_Reference4Ideal := by
  intro m ρ m' ρ' _ hagree
  refine ⟨_, _, _, Kernel4Ideal.Prod.value m ρ, ?_⟩
  refine (θ_run Cert.Reference4Ideal.defs _ _).mono (fun _ h c => ?_) (Cert.Reference4Ideal.Value.run (F := Ideal) m' ρ')
  obtain ⟨h1, h2, h3, h4⟩ := h c
  rw [← h1] at h2 h3
  have hz := h1.trans (b := _) (c := Kernel4Ideal.Prod.G m c) (by
    rw [(hagree c).1, (hagree c).2]
    funext i
    refine (Mat.dotGeneral_rowCol _ _ _ i).trans ?_
    unfold Kernel4Ideal.Prod.G
    rw [Kernel4Ideal.Prod.V_v0, V_main_arg1])
  rw [hz] at h2 h3
  refine ⟨hz, h2.trans ?_, h3.trans ?_, h4⟩
  · unfold Kernel4Ideal.Prod.keys
    generalize Kernel4Ideal.Prod.G m c = z
    funext i
    pointwise
    exact congrArg (fun j => z (ix2 _ j)) (Fin.ext (by dsimp only; omega))
  · unfold Kernel4Ideal.Prod.vals
    generalize Kernel4Ideal.Prod.G m c = z
    funext i
    pointwise
    exact congrArg (fun j => z (ix2 _ j)) (Fin.ext (by dsimp only; omega))

end Cert
-- ==== Proof.Mat5.lean ====
module

public import proofs.«01_k».proof.Proof.Gen.Kernel5Ideal.Frame
public import proofs.«01_k».proof.Proof.Gen.Reference5Ideal.Run
public import proofs.«01_k».proof.Proof.Mat
public import proofs.«01_k».proof.Defs
public import Idealize.ShloMosaic.Lib.Quiescent

@[expose] public section

set_option maxRecDepth 16384

noncomputable section

namespace Cert.Kernel5Ideal.Prod

open Cert.Kernel5Ideal Cert.Kernel5Ideal.Gen Idealize.ShloMosaic Idealize.ShloMosaic.TcCoe Idealize.SL.Sem Idealize.ShloMosaic.Tactic

theorem z2 : (![0, 0] : Fin 2 → ℕ) = fun _ => 0 := by decide
theorem z3 : (![0, 0, 0] : Fin 3 → ℕ) = fun _ => 0 := by decide

theorem out_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1x1x512 .f32) (h4 : a4.IsWhole) (a5 : Memref sig .tc .vmem S1024x512 .f32) (h5 : a5.IsWhole) (a6 : Memref sig .tc .vmem S4096x512 .bf16) (h6 : a6.IsWhole) (hc : cond0_0 i)
    (x : Vec Ideal S1024x4096 .bf16) (w : Vec Ideal S1x4096x512 .f32) (b : Vec Ideal S1x1x512 .f32) :
    out0_A_3 c i a2 h2 a3 h3 a4 h4 a5 h5 a6 h6 hc x w b = k0_pay2 x (k0_pay1 w) b := by
  unfold out0_A_3
  rw [View.read_writes_eq_canon _ _ _ (cover0_A_3 c i a2 h2 a3 h3 a4 h4 a5 h5 a6 h6 hc x w b)]
  unfold kernelRun0_A
  dsimp only
  sl_unfold_words
  rw [View.canon_unit_zero (S := S1024x512) z2]
  simp only [View.readAt_eq_ld, h2.read_unread, h3.read_unread, h4.read_unread, View.ld_unit_zero (S := S1024x4096) z2, View.ld_unit_zero (S := S1x4096x512) z3, View.ld_unit_zero (S := S1x1x512) z3]
  rw [View.readCov_unit_zero (S := S4096x512) _ z2]

theorem sout_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1x1x512 .f32) (h4 : a4.IsWhole) (a5 : Memref sig .tc .vmem S1024x512 .f32) (h5 : a5.IsWhole) (a6 : Memref sig .tc .vmem S4096x512 .bf16) (h6 : a6.IsWhole) (hc : cond0_0 i)
    (x : Vec Ideal S1024x4096 .bf16) (w : Vec Ideal S1x4096x512 .f32) (b : Vec Ideal S1x1x512 .f32) :
    sout0_A_0 c i a2 h2 a3 h3 a4 h4 a5 h5 a6 h6 hc x w b = k0_pay1 w := by
  unfold sout0_A_0
  rw [View.read_writes_eq_canon _ _ _ (scover0_A_0 c i a2 h2 a3 h3 a4 h4 a5 h5 a6 h6 hc x w b)]
  unfold kernelRun0_A
  dsimp only
  sl_unfold_words
  rw [View.canon_unit_zero (S := S4096x512) z2]
  simp only [View.readAt_eq_ld, h3.read_unread, View.ld_unit_zero (S := S1x4096x512) z3]

theorem out_B (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1x1x512 .f32) (h4 : a4.IsWhole) (a5 : Memref sig .tc .vmem S1024x512 .f32) (h5 : a5.IsWhole) (a6 : Memref sig .tc .vmem S4096x512 .bf16) (h6 : a6.IsWhole) (hc : ¬cond0_0 i)
    (x : Vec Ideal S1024x4096 .bf16) (w : Vec Ideal S1x4096x512 .f32) (b : Vec Ideal S1x1x512 .f32) (s : Vec Ideal S4096x512 .bf16) :
    out0_B_3 c i a2 h2 a3 h3 a4 h4 a5 h5 a6 h6 hc x w b s = k0_pay2 x s b := by
  unfold out0_B_3
  rw [View.read_writes_eq_canon _ _ _ (cover0_B_3 c i a2 h2 a3 h3 a4 h4 a5 h5 a6 h6 hc x w b s)]
  unfold kernelRun0_B
  dsimp only
  sl_unfold_words
  rw [View.canon_unit_zero (S := S1024x512) z2]
  simp only [View.readAt_eq_ld, h2.read_unread, h4.read_unread, h6.read_unread, View.ld_unit_zero (S := S1024x4096) z2, View.ld_unit_zero (S := S4096x512) z2, View.ld_unit_zero (S := S1x1x512) z3]

theorem prod_apply (x : Vec Ideal S1024x4096 .bf16) (w : Vec Ideal S1x4096x512 .f32) (b : Vec Ideal S1x1x512 .f32) (y : S1024x512.Idx) :
    k0_pay2 x (k0_pay1 w) b y = (∑ k : Fin 4096, x (ix2 (y 0) k) * w (ix3 0 k (y 1))) + b (ix3 0 0 (y 1)) := by
  unfold k0_pay2 k0_pay1
  pointwise

variable (m : (ℓ : Loc nD τ sig) → Buf (Elt Ideal) ℓ) (c : Dev nD)

theorem index0 : ∀ t : Fin grid0.N, win0_0.index t 0 = t.val % 12 ∧ win0_0.index t 1 = 0 := by decide +kernel
theorem index1 : ∀ t : Fin grid0.N, win0_1.index t 0 = 0 ∧ win0_1.index t 1 = 0 ∧ win0_1.index t 2 = t.val / 12 := by decide +kernel
theorem index2 : ∀ t : Fin grid0.N, win0_2.index t 0 = 0 ∧ win0_2.index t 1 = 0 ∧ win0_2.index t 2 = t.val / 12 := by decide +kernel
theorem index3 : ∀ t : Fin grid0.N, win0_3.index t 0 = t.val % 12 ∧ win0_3.index t 1 = t.val / 12 := by decide +kernel

/-- The product, as the certificate states it: row `i 0` of the tokens with column `i 1` of the weight, and that column's bias. -/
def G : Buf (Elt Ideal) ((c : Thread nD τ).loc main_v2) := fun i => (Mat.rowCol (V m c main_v0) (V m c main_arg1) (i 0) (i 1) : EReal) + V m c main_v1 (ix3 0 0 (i 1))

theorem iblk0_apply (t : Fin cfg0.N) (r : Fin 1024) (k : Fin 4096) (R : Fin 12288) (h : R.val = t.val % 12 * 1024 + r.val) :
    iblk m c 0 t (ix2 r k) = V m c main_v0 (ix2 R k) := by
  unfold iblk
  rw [View.read_apply]
  refine congrArg (V m c main_v0) (funext fun a => Fin.ext ?_)
  show win0_0.index t a * _ + 1 * _ = _
  obtain ⟨h0, h1⟩ := index0 t
  match a with
  | ⟨0, _⟩ => exact (congrArg (· * 1024 + 1 * r.val) h0).trans (by rw [Nat.one_mul]; exact h.symm)
  | ⟨1, _⟩ => exact (congrArg (· * 4096 + 1 * k.val) h1).trans (by exact (Nat.zero_add _).trans (Nat.one_mul _))

theorem iblk1_apply (t : Fin cfg0.N) (k : Fin 4096) (j : Fin 512) (J : Fin 8192) (h : J.val = t.val / 12 * 512 + j.val) :
    iblk m c 1 t (ix3 0 k j) = V m c main_arg1 (ix3 0 k J) := by
  unfold iblk
  rw [View.read_apply]
  refine congrArg (V m c main_arg1) (funext fun a => Fin.ext ?_)
  show win0_1.index t a * _ + 1 * _ = _
  obtain ⟨h0, h1, h2⟩ := index1 t
  match a with
  | ⟨0, _⟩ => exact (congrArg (· * 1 + 1 * (0 : Fin 1).val) h0).trans (by exact (Nat.zero_add _).trans (Nat.one_mul _))
  | ⟨1, _⟩ => exact (congrArg (· * 4096 + 1 * k.val) h1).trans (by exact (Nat.zero_add _).trans (Nat.one_mul _))
  | ⟨2, _⟩ => exact (congrArg (· * 512 + 1 * j.val) h2).trans (by rw [Nat.one_mul]; exact h.symm)

theorem iblk2_apply (t : Fin cfg0.N) (j : Fin 512) (J : Fin 8192) (h : J.val = t.val / 12 * 512 + j.val) :
    iblk m c 2 t (ix3 0 0 j) = V m c main_v1 (ix3 0 0 J) := by
  unfold iblk
  rw [View.read_apply]
  refine congrArg (V m c main_v1) (funext fun a => Fin.ext ?_)
  show win0_2.index t a * _ + 1 * _ = _
  obtain ⟨h0, h1, h2⟩ := index2 t
  match a with
  | ⟨0, _⟩ => exact (congrArg (· * 1 + 1 * (0 : Fin 1).val) h0).trans (by exact (Nat.zero_add _).trans (Nat.one_mul _))
  | ⟨1, _⟩ => exact (congrArg (· * 1 + 1 * (0 : Fin 1).val) h1).trans (by exact (Nat.zero_add _).trans (Nat.one_mul _))
  | ⟨2, _⟩ => exact (congrArg (· * 512 + 1 * j.val) h2).trans (by rw [Nat.one_mul]; exact h.symm)

theorem iblk1_same (t t' : Fin cfg0.N) (h : t.val / 12 = t'.val / 12) : iblk m c 1 t = iblk m c 1 t' := by
  have hN : cfg0.N = 192 := N_0
  have ht := t.isLt
  funext y
  obtain ⟨y0, k, j, rfl⟩ : ∃ (y0 : Fin 1) (k : Fin 4096) (j : Fin 512), y = ix3 y0 k j := ⟨y 0, y 1, y 2, by funext a; match a with | ⟨0, _⟩ => rfl | ⟨1, _⟩ => rfl | ⟨2, _⟩ => rfl⟩
  obtain rfl : y0 = 0 := Subsingleton.elim _ _
  exact (iblk1_apply m c t k j ⟨t.val / 12 * 512 + j.val, by omega⟩ rfl).trans (iblk1_apply m c t' k j _ (by rw [← h])).symm

theorem outs (t : Fin cfg0.N) : outsAt0 m c t.val t.isLt = (k0_pay2 (iblk m c 0 t) (k0_pay1 (iblk m c 1 t)) (iblk m c 2 t), k0_pay1 (iblk m c 1 t)) := by
  have hA : ∀ n h, n % 12 = 0 → outsAt0 m c n h = (k0_pay2 (iblk m c 0 ⟨n, h⟩) (k0_pay1 (iblk m c 1 ⟨n, h⟩)) (iblk m c 2 ⟨n, h⟩), k0_pay1 (iblk m c 1 ⟨n, h⟩)) := by
    intro n h h0
    have e := outsAt0_A m c ⟨n, h⟩ h0
    rw [out_A, sout_A] at e
    exact e
  have hB : ∀ n h, ¬n % 12 = 0 → outsAt0 m c n h = (k0_pay2 (iblk m c 0 ⟨n, h⟩) (outsAt0 m c (n - 1) (by omega)).2 (iblk m c 2 ⟨n, h⟩), (outsAt0 m c (n - 1) (by omega)).2) := by
    intro n h h0
    have e := outsAt0_B m c ⟨n, h⟩ h0
    rw [out_B] at e
    exact e
  exact Mat.carried (α := Vec Ideal S1024x512 .f32) (β := Vec Ideal S4096x512 .bf16) (γ := Vec Ideal S1x4096x512 .f32) 12 (outsAt0 m c) (fun n h => iblk m c 1 ⟨n, h⟩) k0_pay1 (fun n h s => k0_pay2 (iblk m c 0 ⟨n, h⟩) s (iblk m c 2 ⟨n, h⟩)) hA hB
    (fun n h h0 => iblk1_same m c _ _ (by show n / 12 = (n - 1) / 12; omega)) t.val t.isLt

theorem arr : (dats m 0 c).arrAt 3 cfg0.N = G m c := by
  have hN : cfg0.N = 192 := N_0
  refine (dats m 0 c).arrAt_eq_of_cover 3 (G m c) (fun t _ => ?_) fun i => ?_
  · show (cfg0.win 3).cut (grid0.coords t) ((dats m 0 c).after 3 t) = _
    rw [after0_3, outs]
    have ht := t.isLt
    funext y
    rw [View.read_apply]
    refine (prod_apply _ _ _ y).trans ?_
    obtain ⟨h0, h1⟩ := index3 t
    have e0 : ((((cfg0.win 3).blk t).view.emb y 0 : Fin 12288)).val = t.val % 12 * 1024 + (y 0).val :=
      (congrArg (· * 1024 + 1 * (y 0).val) h0).trans (by rw [Nat.one_mul])
    have e1 : ((((cfg0.win 3).blk t).view.emb y 1 : Fin 8192)).val = t.val / 12 * 512 + (y 1).val :=
      (congrArg (· * 512 + 1 * (y 1).val) h1).trans (by rw [Nat.one_mul])
    exact congrArg₂ (fun a b : EReal => a + b) (Mat.rowCol_congr (fun k => iblk0_apply m c t (y 0) k _ e0) fun k => iblk1_apply m c t k (y 1) _ e1) (iblk2_apply m c t (y 1) _ e1)
  · have hi0 : (i 0).val < 12288 := (i 0).isLt
    have hi1 : (i 1).val < 8192 := (i 1).isLt
    have ht : (i 1).val / 512 * 12 + (i 0).val / 1024 < cfg0.N := by omega
    refine ⟨⟨_, ht⟩, flush0_3 _, ?_⟩
    obtain ⟨h0, h1⟩ := index3 ⟨_, ht⟩
    show i ∈ ((View.whole main_v2).slice (win0_3.rect ⟨_, ht⟩)).set
    rw [View.set_slice_whole, Rect.mem_set_unit]
    intro a
    match a with
    | ⟨0, _⟩ => show win0_3.index ⟨_, ht⟩ 0 * 1024 ≤ (i 0).val ∧ (i 0).val < win0_3.index ⟨_, ht⟩ 0 * 1024 + 1024; rw [h0]; dsimp only; omega
    | ⟨1, _⟩ => show win0_3.index ⟨_, ht⟩ 1 * 512 ≤ (i 1).val ∧ (i 1).val < win0_3.index ⟨_, ht⟩ 1 * 512 + 512; rw [h1]; dsimp only; omega

theorem V_v0 : V m c main_v0 = m ((c : Thread nD τ).loc main_arg0) := by
  show StableHlo.after hostOps0 _ _ = _
  after_results
  rfl

theorem V_v1 (j : Fin 8192) : V m c main_v1 (ix3 0 0 j) = m ((c : Thread nD τ).loc main_arg2) (ix2 0 j) := by
  have e : V m c main_v1 = shapeCast _ (m ((c : Thread nD τ).loc main_arg2)) Facts₀.shapeCasts_S1x8192_S1x1x8192 := by
    show StableHlo.after hostOps0 _ _ = _
    after_results
    rfl
  rw [e]
  exact Mat.bias_apply _ _ j

theorem value (ρ : Dev nD → PrngReg) : θ_run defs (onTc (τ := τ) (main (F := Ideal))) ⟨m, fun _ => 0, ρ⟩ fun r => ∀ c : Dev nD,
    r.2.mem ((c.tc : Thread nD τ).loc main_v2) = G m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h.1 c).1 3).trans (arr m c), h.2 c⟩) (θ_run_and (run_main m ρ) (unchanged m ρ))

end Cert.Kernel5Ideal.Prod

namespace Cert

open Cert.Kernel5Ideal Cert.Kernel5Ideal.Gen Idealize.ShloMosaic Idealize.ShloMosaic.TcCoe Idealize.SL.Sem Idealize.ShloMosaic.Tactic

theorem algebraic5 : Cert.algebraic_Kernel5Ideal_Reference5Ideal := by
  intro m ρ m' ρ' _ hagree
  refine ⟨_, Kernel5Ideal.Prod.value m ρ, ?_⟩
  refine (θ_run Cert.Reference5Ideal.defs _ _).mono (fun _ h c => ⟨(h c).1.trans ?_, (h c).2⟩) (Cert.Reference5Ideal.Value.run (F := Ideal) m' ρ')
  rw [(hagree c).1, (hagree c).2.1, (hagree c).2.2]
  funext i
  refine (congrArg₂ (fun a b : EReal => a + b) (Mat.dotGeneral_rowCol _ _ _ i) (Mat.biasRows_apply (by decide) _ _ _ _ i)).trans ?_
  have e := Kernel5Ideal.Prod.V_v1 m c (i 1)
  unfold Kernel5Ideal.Prod.G
  rw [Kernel5Ideal.Prod.V_v0, V_main_arg1]
  exact congrArg (fun b : EReal => _ + b) e.symm

end Cert
-- ==== Proof.Mat6.lean ====
module

public import proofs.«01_k».proof.Proof.Gen.Kernel6Ideal.Frame
public import proofs.«01_k».proof.Proof.Gen.Reference6Ideal.Run
public import proofs.«01_k».proof.Proof.Mat
public import proofs.«01_k».proof.Defs
public import Idealize.ShloMosaic.Lib.Quiescent

@[expose] public section

set_option maxRecDepth 16384

noncomputable section

namespace Cert.Kernel6Ideal.Prod

open Cert.Kernel6Ideal Cert.Kernel6Ideal.Gen Idealize.ShloMosaic Idealize.ShloMosaic.TcCoe Idealize.SL.Sem Idealize.ShloMosaic.Tactic

theorem z2 : (![0, 0] : Fin 2 → ℕ) = fun _ => 0 := by decide
theorem z3 : (![0, 0, 0] : Fin 3 → ℕ) = fun _ => 0 := by decide

theorem out_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1x1x512 .f32) (h4 : a4.IsWhole) (a5 : Memref sig .tc .vmem S1024x512 .f32) (h5 : a5.IsWhole) (a6 : Memref sig .tc .vmem S4096x512 .bf16) (h6 : a6.IsWhole) (hc : cond0_0 i)
    (x : Vec Ideal S1024x4096 .bf16) (w : Vec Ideal S1x4096x512 .f32) (b : Vec Ideal S1x1x512 .f32) :
    out0_A_3 c i a2 h2 a3 h3 a4 h4 a5 h5 a6 h6 hc x w b = k0_pay2 x (k0_pay1 w) b := by
  unfold out0_A_3
  rw [View.read_writes_eq_canon _ _ _ (cover0_A_3 c i a2 h2 a3 h3 a4 h4 a5 h5 a6 h6 hc x w b)]
  unfold kernelRun0_A
  dsimp only
  sl_unfold_words
  rw [View.canon_unit_zero (S := S1024x512) z2]
  simp only [View.readAt_eq_ld, h2.read_unread, h3.read_unread, h4.read_unread, View.ld_unit_zero (S := S1024x4096) z2, View.ld_unit_zero (S := S1x4096x512) z3, View.ld_unit_zero (S := S1x1x512) z3]
  rw [View.readCov_unit_zero (S := S4096x512) _ z2]

theorem sout_A (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1x1x512 .f32) (h4 : a4.IsWhole) (a5 : Memref sig .tc .vmem S1024x512 .f32) (h5 : a5.IsWhole) (a6 : Memref sig .tc .vmem S4096x512 .bf16) (h6 : a6.IsWhole) (hc : cond0_0 i)
    (x : Vec Ideal S1024x4096 .bf16) (w : Vec Ideal S1x4096x512 .f32) (b : Vec Ideal S1x1x512 .f32) :
    sout0_A_0 c i a2 h2 a3 h3 a4 h4 a5 h5 a6 h6 hc x w b = k0_pay1 w := by
  unfold sout0_A_0
  rw [View.read_writes_eq_canon _ _ _ (scover0_A_0 c i a2 h2 a3 h3 a4 h4 a5 h5 a6 h6 hc x w b)]
  unfold kernelRun0_A
  dsimp only
  sl_unfold_words
  rw [View.canon_unit_zero (S := S4096x512) z2]
  simp only [View.readAt_eq_ld, h3.read_unread, View.ld_unit_zero (S := S1x4096x512) z3]

theorem out_B (c : Dev nD) (i : grid0.Coords) (a2 : Memref sig .tc .vmem S1024x4096 .bf16) (h2 : a2.IsWhole) (a3 : Memref sig .tc .vmem S1x4096x512 .f32) (h3 : a3.IsWhole) (a4 : Memref sig .tc .vmem S1x1x512 .f32) (h4 : a4.IsWhole) (a5 : Memref sig .tc .vmem S1024x512 .f32) (h5 : a5.IsWhole) (a6 : Memref sig .tc .vmem S4096x512 .bf16) (h6 : a6.IsWhole) (hc : ¬cond0_0 i)
    (x : Vec Ideal S1024x4096 .bf16) (w : Vec Ideal S1x4096x512 .f32) (b : Vec Ideal S1x1x512 .f32) (s : Vec Ideal S4096x512 .bf16) :
    out0_B_3 c i a2 h2 a3 h3 a4 h4 a5 h5 a6 h6 hc x w b s = k0_pay2 x s b := by
  unfold out0_B_3
  rw [View.read_writes_eq_canon _ _ _ (cover0_B_3 c i a2 h2 a3 h3 a4 h4 a5 h5 a6 h6 hc x w b s)]
  unfold kernelRun0_B
  dsimp only
  sl_unfold_words
  rw [View.canon_unit_zero (S := S1024x512) z2]
  simp only [View.readAt_eq_ld, h2.read_unread, h4.read_unread, h6.read_unread, View.ld_unit_zero (S := S1024x4096) z2, View.ld_unit_zero (S := S4096x512) z2, View.ld_unit_zero (S := S1x1x512) z3]

theorem prod_apply (x : Vec Ideal S1024x4096 .bf16) (w : Vec Ideal S1x4096x512 .f32) (b : Vec Ideal S1x1x512 .f32) (y : S1024x512.Idx) :
    k0_pay2 x (k0_pay1 w) b y = (∑ k : Fin 4096, x (ix2 (y 0) k) * w (ix3 0 k (y 1))) + b (ix3 0 0 (y 1)) := by
  unfold k0_pay2 k0_pay1
  pointwise

variable (m : (ℓ : Loc nD τ sig) → Buf (Elt Ideal) ℓ) (c : Dev nD)

theorem index0 : ∀ t : Fin grid0.N, win0_0.index t 0 = t.val % 12 ∧ win0_0.index t 1 = 0 := by decide +kernel
theorem index1 : ∀ t : Fin grid0.N, win0_1.index t 0 = 0 ∧ win0_1.index t 1 = 0 ∧ win0_1.index t 2 = t.val / 12 := by decide +kernel
theorem index2 : ∀ t : Fin grid0.N, win0_2.index t 0 = 0 ∧ win0_2.index t 1 = 0 ∧ win0_2.index t 2 = t.val / 12 := by decide +kernel
theorem index3 : ∀ t : Fin grid0.N, win0_3.index t 0 = t.val % 12 ∧ win0_3.index t 1 = t.val / 12 := by decide +kernel

/-- The product, as the certificate states it: row `i 0` of the tokens with column `i 1` of the weight, and that column's bias. -/
def G : Buf (Elt Ideal) ((c : Thread nD τ).loc main_v2) := fun i => (Mat.rowCol (V m c main_v0) (V m c main_arg1) (i 0) (i 1) : EReal) + V m c main_v1 (ix3 0 0 (i 1))

theorem iblk0_apply (t : Fin cfg0.N) (r : Fin 1024) (k : Fin 4096) (R : Fin 12288) (h : R.val = t.val % 12 * 1024 + r.val) :
    iblk m c 0 t (ix2 r k) = V m c main_v0 (ix2 R k) := by
  unfold iblk
  rw [View.read_apply]
  refine congrArg (V m c main_v0) (funext fun a => Fin.ext ?_)
  show win0_0.index t a * _ + 1 * _ = _
  obtain ⟨h0, h1⟩ := index0 t
  match a with
  | ⟨0, _⟩ => exact (congrArg (· * 1024 + 1 * r.val) h0).trans (by rw [Nat.one_mul]; exact h.symm)
  | ⟨1, _⟩ => exact (congrArg (· * 4096 + 1 * k.val) h1).trans (by exact (Nat.zero_add _).trans (Nat.one_mul _))

theorem iblk1_apply (t : Fin cfg0.N) (k : Fin 4096) (j : Fin 512) (J : Fin 4096) (h : J.val = t.val / 12 * 512 + j.val) :
    iblk m c 1 t (ix3 0 k j) = V m c main_arg1 (ix3 0 k J) := by
  unfold iblk
  rw [View.read_apply]
  refine congrArg (V m c main_arg1) (funext fun a => Fin.ext ?_)
  show win0_1.index t a * _ + 1 * _ = _
  obtain ⟨h0, h1, h2⟩ := index1 t
  match a with
  | ⟨0, _⟩ => exact (congrArg (· * 1 + 1 * (0 : Fin 1).val) h0).trans (by exact (Nat.zero_add _).trans (Nat.one_mul _))
  | ⟨1, _⟩ => exact (congrArg (· * 4096 + 1 * k.val) h1).trans (by exact (Nat.zero_add _).trans (Nat.one_mul _))
  | ⟨2, _⟩ => exact (congrArg (· * 512 + 1 * j.val) h2).trans (by rw [Nat.one_mul]; exact h.symm)

theorem iblk2_apply (t : Fin cfg0.N) (j : Fin 512) (J : Fin 4096) (h : J.val = t.val / 12 * 512 + j.val) :
    iblk m c 2 t (ix3 0 0 j) = V m c main_v1 (ix3 0 0 J) := by
  unfold iblk
  rw [View.read_apply]
  refine congrArg (V m c main_v1) (funext fun a => Fin.ext ?_)
  show win0_2.index t a * _ + 1 * _ = _
  obtain ⟨h0, h1, h2⟩ := index2 t
  match a with
  | ⟨0, _⟩ => exact (congrArg (· * 1 + 1 * (0 : Fin 1).val) h0).trans (by exact (Nat.zero_add _).trans (Nat.one_mul _))
  | ⟨1, _⟩ => exact (congrArg (· * 1 + 1 * (0 : Fin 1).val) h1).trans (by exact (Nat.zero_add _).trans (Nat.one_mul _))
  | ⟨2, _⟩ => exact (congrArg (· * 512 + 1 * j.val) h2).trans (by rw [Nat.one_mul]; exact h.symm)

theorem iblk1_same (t t' : Fin cfg0.N) (h : t.val / 12 = t'.val / 12) : iblk m c 1 t = iblk m c 1 t' := by
  have hN : cfg0.N = 96 := N_0
  have ht := t.isLt
  funext y
  obtain ⟨y0, k, j, rfl⟩ : ∃ (y0 : Fin 1) (k : Fin 4096) (j : Fin 512), y = ix3 y0 k j := ⟨y 0, y 1, y 2, by funext a; match a with | ⟨0, _⟩ => rfl | ⟨1, _⟩ => rfl | ⟨2, _⟩ => rfl⟩
  obtain rfl : y0 = 0 := Subsingleton.elim _ _
  exact (iblk1_apply m c t k j ⟨t.val / 12 * 512 + j.val, by omega⟩ rfl).trans (iblk1_apply m c t' k j _ (by rw [← h])).symm

theorem outs (t : Fin cfg0.N) : outsAt0 m c t.val t.isLt = (k0_pay2 (iblk m c 0 t) (k0_pay1 (iblk m c 1 t)) (iblk m c 2 t), k0_pay1 (iblk m c 1 t)) := by
  have hA : ∀ n h, n % 12 = 0 → outsAt0 m c n h = (k0_pay2 (iblk m c 0 ⟨n, h⟩) (k0_pay1 (iblk m c 1 ⟨n, h⟩)) (iblk m c 2 ⟨n, h⟩), k0_pay1 (iblk m c 1 ⟨n, h⟩)) := by
    intro n h h0
    have e := outsAt0_A m c ⟨n, h⟩ h0
    rw [out_A, sout_A] at e
    exact e
  have hB : ∀ n h, ¬n % 12 = 0 → outsAt0 m c n h = (k0_pay2 (iblk m c 0 ⟨n, h⟩) (outsAt0 m c (n - 1) (by omega)).2 (iblk m c 2 ⟨n, h⟩), (outsAt0 m c (n - 1) (by omega)).2) := by
    intro n h h0
    have e := outsAt0_B m c ⟨n, h⟩ h0
    rw [out_B] at e
    exact e
  exact Mat.carried (α := Vec Ideal S1024x512 .f32) (β := Vec Ideal S4096x512 .bf16) (γ := Vec Ideal S1x4096x512 .f32) 12 (outsAt0 m c) (fun n h => iblk m c 1 ⟨n, h⟩) k0_pay1 (fun n h s => k0_pay2 (iblk m c 0 ⟨n, h⟩) s (iblk m c 2 ⟨n, h⟩)) hA hB
    (fun n h h0 => iblk1_same m c _ _ (by show n / 12 = (n - 1) / 12; omega)) t.val t.isLt

theorem arr : (dats m 0 c).arrAt 3 cfg0.N = G m c := by
  have hN : cfg0.N = 96 := N_0
  refine (dats m 0 c).arrAt_eq_of_cover 3 (G m c) (fun t _ => ?_) fun i => ?_
  · show (cfg0.win 3).cut (grid0.coords t) ((dats m 0 c).after 3 t) = _
    rw [after0_3, outs]
    have ht := t.isLt
    funext y
    rw [View.read_apply]
    refine (prod_apply _ _ _ y).trans ?_
    obtain ⟨h0, h1⟩ := index3 t
    have e0 : ((((cfg0.win 3).blk t).view.emb y 0 : Fin 12288)).val = t.val % 12 * 1024 + (y 0).val :=
      (congrArg (· * 1024 + 1 * (y 0).val) h0).trans (by rw [Nat.one_mul])
    have e1 : ((((cfg0.win 3).blk t).view.emb y 1 : Fin 4096)).val = t.val / 12 * 512 + (y 1).val :=
      (congrArg (· * 512 + 1 * (y 1).val) h1).trans (by rw [Nat.one_mul])
    exact congrArg₂ (fun a b : EReal => a + b) (Mat.rowCol_congr (fun k => iblk0_apply m c t (y 0) k _ e0) fun k => iblk1_apply m c t k (y 1) _ e1) (iblk2_apply m c t (y 1) _ e1)
  · have hi0 : (i 0).val < 12288 := (i 0).isLt
    have hi1 : (i 1).val < 4096 := (i 1).isLt
    have ht : (i 1).val / 512 * 12 + (i 0).val / 1024 < cfg0.N := by omega
    refine ⟨⟨_, ht⟩, flush0_3 _, ?_⟩
    obtain ⟨h0, h1⟩ := index3 ⟨_, ht⟩
    show i ∈ ((View.whole main_v2).slice (win0_3.rect ⟨_, ht⟩)).set
    rw [View.set_slice_whole, Rect.mem_set_unit]
    intro a
    match a with
    | ⟨0, _⟩ => show win0_3.index ⟨_, ht⟩ 0 * 1024 ≤ (i 0).val ∧ (i 0).val < win0_3.index ⟨_, ht⟩ 0 * 1024 + 1024; rw [h0]; dsimp only; omega
    | ⟨1, _⟩ => show win0_3.index ⟨_, ht⟩ 1 * 512 ≤ (i 1).val ∧ (i 1).val < win0_3.index ⟨_, ht⟩ 1 * 512 + 512; rw [h1]; dsimp only; omega

theorem V_v0 : V m c main_v0 = m ((c : Thread nD τ).loc main_arg0) := by
  show StableHlo.after hostOps0 _ _ = _
  after_results
  rfl

theorem V_v1 (j : Fin 4096) : V m c main_v1 (ix3 0 0 j) = m ((c : Thread nD τ).loc main_arg2) (ix2 0 j) := by
  have e : V m c main_v1 = shapeCast _ (m ((c : Thread nD τ).loc main_arg2)) Facts₀.shapeCasts_S1x4096_S1x1x4096 := by
    show StableHlo.after hostOps0 _ _ = _
    after_results
    rfl
  rw [e]
  exact Mat.bias_apply _ _ j

theorem value (ρ : Dev nD → PrngReg) : θ_run defs (onTc (τ := τ) (main (F := Ideal))) ⟨m, fun _ => 0, ρ⟩ fun r => ∀ c : Dev nD,
    r.2.mem ((c.tc : Thread nD τ).loc main_v2) = G m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h.1 c).1 3).trans (arr m c), h.2 c⟩) (θ_run_and (run_main m ρ) (unchanged m ρ))

end Cert.Kernel6Ideal.Prod

namespace Cert

open Cert.Kernel6Ideal Cert.Kernel6Ideal.Gen Idealize.ShloMosaic Idealize.ShloMosaic.TcCoe Idealize.SL.Sem Idealize.ShloMosaic.Tactic

theorem algebraic6 : Cert.algebraic_Kernel6Ideal_Reference6Ideal := by
  intro m ρ m' ρ' _ hagree
  refine ⟨_, Kernel6Ideal.Prod.value m ρ, ?_⟩
  refine (θ_run Cert.Reference6Ideal.defs _ _).mono (fun _ h c => ⟨(h c).1.trans ?_, (h c).2⟩) (Cert.Reference6Ideal.Value.run (F := Ideal) m' ρ')
  rw [(hagree c).1, (hagree c).2.1, (hagree c).2.2]
  funext i
  refine (congrArg₂ (fun a b : EReal => a + b) (Mat.dotGeneral_rowCol _ _ _ i) (Mat.biasRows_apply (by decide) _ _ _ _ i)).trans ?_
  have e := Kernel6Ideal.Prod.V_v1 m c (i 1)
  unfold Kernel6Ideal.Prod.G
  rw [Kernel6Ideal.Prod.V_v0, V_main_arg1]
  exact congrArg (fun b : EReal => _ + b) e.symm

end Cert
-- ==== Proof.Ln7.lean ====
module

public import proofs.«01_k».proof.Proof.Gen.Kernel7Ideal.Frame
public import proofs.«01_k».proof.Proof.Gen.Reference7Ideal.Run
public import proofs.«01_k».proof.Proof.Mat
public import proofs.«01_k».proof.Defs
public import Idealize.ShloMosaic.Lib.Quiescent

@[expose] public section

set_option maxRecDepth 16384

noncomputable section

namespace Cert.Kernel7Ideal.Ln

open Cert.Kernel7Ideal Cert.Kernel7Ideal.Gen Idealize.ShloMosaic Idealize.ShloMosaic.TcCoe Idealize.SL.Sem Idealize.ShloMosaic.Tactic

theorem z2 : (![0, 0] : Fin 2 → ℕ) = fun _ => 0 := by decide
theorem z3 : (![0, 0, 0] : Fin 3 → ℕ) = fun _ => 0 := by decide

/-- The row that is normalised: the scaled stream plus the modulated mixture. -/
def pre (x f s : Fin 4096 → EReal) (k : Fin 4096) : EReal := Ideal.ofBits FTy.f32 1071072509#32 * x k + (1 + s k) * f k

/-- A row's mean. -/
def mean (v : Fin 4096 → EReal) : EReal := Ideal.div (∑ k, v k) (Ideal.ofBits FTy.f32 1166016512#32)

/-- The layer norm of a row, at a column with gain `g` and bias `b`. -/
def norm (v : Fin 4096 → EReal) (j : Fin 4096) (g b : EReal) : EReal :=
  (v j - mean v) * Ideal.rsqrt (mean (fun k => (v k - mean v) * (v k - mean v)) + Ideal.ofBits FTy.f32 925353388#32) * g + b

theorem norm_congr {x x' f f' s s' : Fin 4096 → EReal} {j j' : Fin 4096} {g g' b b' : EReal} (hx : ∀ k, x k = x' k) (hf : ∀ k, f k = f' k)
    (hs : ∀ k, s k = s' k) (hj : j = j') (hg : g = g') (hb : b = b') : norm (pre x f s) j g b = norm (pre x' f' s') j' g' b' := by
  obtain rfl := funext hx; obtain rfl := funext hf; obtain rfl := funext hs
  rw [hj, hg, hb]

theorem pay_apply (m : Vec Ideal S1x6x4096 .f32) (x f : Vec Ideal S256x4096 .f32) (g b : Vec Ideal S1x1x4096 .f32) (y : S256x4096.Idx) :
    k0_pay1 m x f g b y = norm (pre (fun k => x (ix2 (y 0) k)) (fun k => f (ix2 (y 0) k)) (fun k => m (ix3 0 5 k))) (y 1) (g (ix3 0 0 (y 1))) (b (ix3 0 0 (y 1))) := by
  obtain ⟨r, j, rfl⟩ : ∃ (r : Fin 256) (j : Fin 4096), y = ix2 r j := ⟨y 0, y 1, by funext a; match a with | ⟨0, _⟩ => rfl | ⟨1, _⟩ => rfl⟩
  unfold k0_pay1
  pointwise
  rfl

theorem out_eq (x f : Vec Ideal S256x4096 .f32) (m : Vec Ideal S1x6x4096 .f32) (g b : Vec Ideal S1x1x4096 .f32) :
    out0_5 x f m g b = k0_pay1 m x f g b := by
  unfold out0_5
  rw [View.canon_unit_zero (S := S256x4096) z2]
  simp only [View.ld_unit_zero (S := S256x4096) z2, View.ld_unit_zero (S := S1x6x4096) z3, View.ld_unit_zero (S := S1x1x4096) z3]

variable (m : (ℓ : Loc nD τ sig) → Buf (Elt Ideal) ℓ) (c : Dev nD)

/-- The modulation row of a token: the prompt's, or its sample sequence's. -/
def seg (r : ℕ) : Fin 3 := if r < 4096 then 0 else if r < 8192 then 1 else 2

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = (seg (t.val * 256)).val ∧ win0_2.index t 1 = 0 ∧ win0_2.index t 2 = 0 := by decide +kernel
theorem index3 : ∀ t : Fin grid0.N, win0_3.index t 0 = 3 ∧ win0_3.index t 1 = 0 ∧ win0_3.index t 2 = 0 := by decide +kernel
theorem index4 : ∀ t : Fin grid0.N, win0_4.index t 0 = 3 ∧ win0_4.index t 1 = 0 ∧ win0_4.index t 2 = 0 := by decide +kernel
theorem index5 : ∀ t : Fin grid0.N, win0_5.index t 0 = t.val ∧ win0_5.index t 1 = 0 := by decide +kernel

theorem seg_block (t r : ℕ) (h : r < 256) : seg (t * 256 + r) = seg (t * 256) := by
  unfold seg
  split <;> split <;> first | rfl | omega | (split <;> first | rfl | omega | (split <;> first | rfl | omega))

/-- The normalised rows: token `r`'s row, read at column `j`. -/
def row (x f : Vec Ideal S12288x4096 .f32) (s : Vec Ideal S3x6x4096 .f32) (g b : Vec Ideal S4x4096 .f32) (r : Fin 12288) (j : Fin 4096) : EReal :=
  norm (pre (fun k => x (ix2 r k)) (fun k => f (ix2 r k)) (fun k => s (ix3 (seg r.val) 5 k))) j (g (ix2 3 j)) (b (ix2 3 j))

/-- The array the region leaves. -/
def G : Buf (Elt Ideal) ((c : Thread nD τ).loc main_v2) := fun i =>
  row (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

theorem iblk0_apply (t : Fin cfg0.N) (r : Fin 256) (k : Fin 4096) (R : Fin 12288) (h : R.val = t.val * 256 + r.val) :
    iblk m c 0 t (ix2 r k) = V m c main_arg0 (ix2 R k) := by
  unfold iblk
  rw [View.read_apply]
  refine congrArg (V m c main_arg0) (funext fun a => Fin.ext ?_)
  show win0_0.index t a * _ + 1 * _ = _
  obtain ⟨h0, h1⟩ := index0 t
  match a with
  | ⟨0, _⟩ => exact (congrArg (· * 256 + 1 * r.val) h0).trans (by rw [Nat.one_mul]; exact h.symm)
  | ⟨1, _⟩ => exact (congrArg (· * 4096 + 1 * k.val) h1).trans (by exact (Nat.zero_add _).trans (Nat.one_mul _))

theorem iblk1_apply (t : Fin cfg0.N) (r : Fin 256) (k : Fin 4096) (R : Fin 12288) (h : R.val = t.val * 256 + r.val) :
    iblk m c 1 t (ix2 r k) = V m c main_arg1 (ix2 R k) := by
  unfold iblk
  rw [View.read_apply]
  refine congrArg (V m c main_arg1) (funext fun a => Fin.ext ?_)
  show win0_1.index t a * _ + 1 * _ = _
  obtain ⟨h0, h1⟩ := index1 t
  match a with
  | ⟨0, _⟩ => exact (congrArg (· * 256 + 1 * r.val) h0).trans (by rw [Nat.one_mul]; exact h.symm)
  | ⟨1, _⟩ => exact (congrArg (· * 4096 + 1 * k.val) h1).trans (by exact (Nat.zero_add _).trans (Nat.one_mul _))

theorem iblk2_apply (t : Fin cfg0.N) (q : Fin 6) (k : Fin 4096) :
    iblk m c 2 t (ix3 0 q k) = V m c main_arg2 (ix3 (seg (t.val * 256)) q k) := by
  unfold iblk
  rw [View.read_apply]
  refine congrArg (V m c main_arg2) (funext fun a => Fin.ext ?_)
  show win0_2.index t a * _ + 1 * _ = _
  obtain ⟨h0, h1, h2⟩ := index2 t
  match a with
  | ⟨0, _⟩ => exact (congrArg (· * 1 + 1 * (0 : Fin 1).val) h0).trans (by exact Nat.mul_one _)
  | ⟨1, _⟩ => exact (congrArg (· * 6 + 1 * q.val) h1).trans (by exact (Nat.zero_add _).trans (Nat.one_mul _))
  | ⟨2, _⟩ => exact (congrArg (· * 4096 + 1 * k.val) h2).trans (by exact (Nat.zero_add _).trans (Nat.one_mul _))

theorem iblk3_apply (t : Fin cfg0.N) (k : Fin 4096) :
    iblk m c 3 t (ix3 0 0 k) = V m c main_v0 (ix3 3 0 k) := by
  unfold iblk
  rw [View.read_apply]
  refine congrArg (V m c main_v0) (funext fun a => Fin.ext ?_)
  show win0_3.index t a * _ + 1 * _ = _
  obtain ⟨h0, h1, h2⟩ := index3 t
  match a with
  | ⟨0, _⟩ => exact (congrArg (· * 1 + 1 * (0 : Fin 1).val) h0).trans (by rfl)
  | ⟨1, _⟩ => exact (congrArg (· * 1 + 1 * (0 : Fin 1).val) h1).trans (by rfl)
  | ⟨2, _⟩ => exact (congrArg (· * 4096 + 1 * k.val) h2).trans (by exact (Nat.zero_add _).trans (Nat.one_mul _))

theorem iblk4_apply (t : Fin cfg0.N) (k : Fin 4096) :
    iblk m c 4 t (ix3 0 0 k) = V m c main_v1 (ix3 3 0 k) := by
  unfold iblk
  rw [View.read_apply]
  refine congrArg (V m c main_v1) (funext fun a => Fin.ext ?_)
  show win0_4.index t a * _ + 1 * _ = _
  obtain ⟨h0, h1, h2⟩ := index4 t
  match a with
  | ⟨0, _⟩ => exact (congrArg (· * 1 + 1 * (0 : Fin 1).val) h0).trans (by rfl)
  | ⟨1, _⟩ => exact (congrArg (· * 1 + 1 * (0 : Fin 1).val) h1).trans (by rfl)
  | ⟨2, _⟩ => exact (congrArg (· * 4096 + 1 * k.val) h2).trans (by exact (Nat.zero_add _).trans (Nat.one_mul _))

/-- The gains, each row made a block of one row. -/
def rows (g : Vec Ideal S4x4096 .f32) : Vec Ideal S4x1x4096 .f32 := shapeCast _ g Facts₀.shapeCasts_S4x4096_S4x1x4096

theorem rows_apply (g : Vec Ideal S4x4096 .f32) (l : Fin 4) (k : Fin 4096) : rows g (ix3 l 0 k) = g (ix2 l k) := by
  unfold rows
  pointwise

theorem V_v0 : V m c main_v0 = rows (m ((c : Thread nD τ).loc main_arg3)) := by
  show StableHlo.after hostOps0 _ _ = _
  after_results
  rfl

theorem V_v1 : V m c main_v1 = rows (m ((c : Thread nD τ).loc main_arg4)) := by
  show StableHlo.after hostOps0 _ _ = _
  after_results
  rfl

theorem arr : (dats m 0 c).arrAt 5 cfg0.N = G m c := by
  have hN : cfg0.N = 48 := N_0
  refine (dats m 0 c).arrAt_eq_of_cover 5 (G m c) (fun t _ => ?_) fun i => ?_
  · show (cfg0.win 5).cut (grid0.coords t) ((dats m 0 c).after 5 t) = _
    rw [after0_5, out_eq]
    have ht := t.isLt
    funext y
    rw [View.read_apply]
    refine (pay_apply _ _ _ _ _ y).trans ?_
    obtain ⟨h0, h1⟩ := index5 t
    have e0 : ((((cfg0.win 5).blk t).view.emb y 0 : Fin 12288)).val = t.val * 256 + (y 0).val :=
      (congrArg (· * 256 + 1 * (y 0).val) h0).trans (by rw [Nat.one_mul])
    have e1 : y 1 = ((((cfg0.win 5).blk t).view.emb y 1 : Fin 4096)) :=
      Fin.ext ((congrArg (· * 4096 + 1 * (y 1).val) h1).trans (by rw [Nat.one_mul, Nat.zero_mul, Nat.zero_add])).symm
    have hs : seg ((((cfg0.win 5).blk t).view.emb y 0 : Fin 12288)).val = seg (t.val * 256) := by
      rw [e0]; exact seg_block _ _ (y 0).isLt
    refine norm_congr (fun k => (iblk0_apply m c t (y 0) k _ e0).trans (congrFun (V_main_arg0 m c) _)) (fun k => (iblk1_apply m c t (y 0) k _ e0).trans (congrFun (V_main_arg1 m c) _)) (fun k => ?_) e1 ?_ ?_
    · rw [iblk2_apply, V_main_arg2, hs]
    · rw [← e1]
      exact (iblk3_apply m c t (y 1)).trans ((congrFun (V_v0 m c) _).trans (rows_apply _ _ _))
    · rw [← e1]
      exact (iblk4_apply m c t (y 1)).trans ((congrFun (V_v1 m c) _).trans (rows_apply _ _ _))
  · have hi0 : (i 0).val < 12288 := (i 0).isLt
    have hi1 : (i 1).val < 4096 := (i 1).isLt
    have ht : (i 0).val / 256 < cfg0.N := by omega
    refine ⟨⟨_, ht⟩, flush0_5 _, ?_⟩
    obtain ⟨h0, h1⟩ := index5 ⟨_, ht⟩
    show i ∈ ((View.whole main_v2).slice (win0_5.rect ⟨_, ht⟩)).set
    rw [View.set_slice_whole, Rect.mem_set_unit]
    intro a
    match a with
    | ⟨0, _⟩ => show win0_5.index ⟨_, ht⟩ 0 * 256 ≤ (i 0).val ∧ (i 0).val < win0_5.index ⟨_, ht⟩ 0 * 256 + 256; rw [h0]; dsimp only; omega
    | ⟨1, _⟩ => show win0_5.index ⟨_, ht⟩ 1 * 4096 ≤ (i 1).val ∧ (i 1).val < win0_5.index ⟨_, ht⟩ 1 * 4096 + 4096; rw [h1]; omega

/-- The prompt's rows of the array, by prompt. -/
def prompt (z : Vec Ideal S12288x4096 .f32) : Vec Ideal S16x256x4096 .f32 :=
  shapeCast _ (extractStridedSlice S4096x4096 ![0, 0] z Facts₀.slices_S12288x4096_S4096x4096_0_0) Facts₀.shapeCasts_S4096x4096_S16x256x4096

/-- The samples' rows of the array, by sample. -/
def sample (z : Vec Ideal S12288x4096 .f32) : Vec Ideal S2x4096x4096 .f32 :=
  shapeCast _ (extractStridedSlice S8192x4096 ![4096, 0] z Facts₀.slices_S12288x4096_S8192x4096_4096_0) Facts₀.shapeCasts_S8192x4096_S2x4096x4096

theorem withArrays_z : Pipeline.withArrays (cfgs 0).spec c (V0 m c) (fun w => (dats m 0 c).arrAt w (cfgs 0).N) (Proc.devRef .tc main_v2) = G m c :=
  (Pipeline.withArrays_arr spec0 winFacts0.arr_inj c _ _ 5).trans (arr m c)

theorem tail_prompt : Pipeline.afterTail₀ cfgs (dats m) 0 (V0 m) [hostOps1] c main_v4 = prompt (G m c) := by
  unfold Pipeline.afterTail₀
  show StableHlo.after hostOps1 _ _ = _
  after_results
  exact congrArg prompt (withArrays_z m c)

theorem tail_sample : Pipeline.afterTail₀ cfgs (dats m) 0 (V0 m) [hostOps1] c main_v6 = sample (G m c) := by
  unfold Pipeline.afterTail₀
  show StableHlo.after hostOps1 _ _ = _
  after_results
  exact congrArg sample (withArrays_z m c)

theorem prompt_apply (i : S16x256x4096.Idx) (R : Fin 12288) (h : R.val = (i 0).val * 256 + (i 1).val) (z : Vec Ideal S12288x4096 .f32) :
    prompt z i = z (ix2 R (i 2)) := by
  unfold prompt
  pointwise
  exact congrArg (fun r => z (ix2 r _)) (Fin.ext h.symm)

theorem sample_apply (i : S2x4096x4096.Idx) (R : Fin 12288) (h : R.val = 4096 + ((i 0).val * 4096 + (i 1).val)) (z : Vec Ideal S12288x4096 .f32) :
    sample z i = z (ix2 R (i 2)) := by
  unfold sample
  pointwise
  exact congrArg (fun r => z (ix2 r _)) (Fin.ext h.symm)

theorem value (ρ : Dev nD → PrngReg) : θ_run defs (onTc (τ := τ) (main (F := Ideal))) ⟨m, fun _ => 0, ρ⟩ fun r => ∀ c : Dev nD,
    r.2.mem ((c.tc : Thread nD τ).loc main_v4) = prompt (G m c)
    ∧ r.2.mem ((c.tc : Thread nD τ).loc main_v6) = sample (G m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h.1 c).2 main_v4 (Pipeline.mem_restRefs_of main_v4 (by decide) (by decide))).trans (tail_prompt m c),
      ((h.1 c).2 main_v6 (Pipeline.mem_restRefs_of main_v6 (by decide) (by decide))).trans (tail_sample m c), h.2 c⟩)
    (θ_run_and (run_main m ρ) (unchanged m ρ))

end Cert.Kernel7Ideal.Ln

namespace Cert.Reference7Ideal.Ln

open Cert.Reference7Ideal Idealize.ShloMosaic Idealize.ShloMosaic.TcCoe Idealize.SL.Sem Idealize.ShloMosaic.Tactic
open Cert.Kernel7Ideal.Ln (row seg norm pre)

variable (m : (ℓ : Loc nD τ sig) → Buf (Elt Ideal) ℓ) (c : Dev nD)

theorem prompt_apply (i : S16x256x4096.Idx) (R : Fin 12288) (h : R.val = (i 0).val * 256 + (i 1).val) :
    Value.res_main_v47 (F := Ideal) m c i
      = row (m ((c : Thread nD τ).loc main_arg0)) (m ((c : Thread nD τ).loc main_arg1)) (m ((c : Thread nD τ).loc main_arg2)) (m ((c : Thread nD τ).loc main_arg3)) (m ((c : Thread nD τ).loc main_arg4)) R (i 2) := by
  have hi0 : (i 0).val < 16 := (i 0).isLt
  have hi1 : (i 1).val < 256 := (i 1).isLt
  have hs : seg R.val = 0 := by unfold seg; rw [if_pos (by omega)]
  unfold row
  rw [hs]
  have hb : (i 0).val * 256 + (i 1).val < 12288 := by omega
  rw [show R = ⟨(i 0).val * 256 + (i 1).val, hb⟩ from Fin.ext h]
  unfold Value.res_main_v47
  pointwise
  rfl

theorem sample_apply (i : S2x4096x4096.Idx) (R : Fin 12288) (h : R.val = 4096 + ((i 0).val * 4096 + (i 1).val)) :
    Value.res_main_v83 (F := Ideal) m c i
      = row (m ((c : Thread nD τ).loc main_arg0)) (m ((c : Thread nD τ).loc main_arg1)) (m ((c : Thread nD τ).loc main_arg2)) (m ((c : Thread nD τ).loc main_arg3)) (m ((c : Thread nD τ).loc main_arg4)) R (i 2) := by
  have hi0 : (i 0).val < 2 := (i 0).isLt
  have hi1 : (i 1).val < 4096 := (i 1).isLt
  have hs : seg R.val = ⟨1 + (i 0).val, by omega⟩ := by
    unfold seg; rw [if_neg (by omega)]
    split
    · exact Fin.ext (by show 1 = _; dsimp only; omega)
    · exact Fin.ext (by show 2 = _; dsimp only; omega)
  unfold row
  rw [hs]
  have hb : 4096 + ((i 0).val * 4096 + (i 1).val) < 12288 := by omega
  rw [show R = ⟨4096 + ((i 0).val * 4096 + (i 1).val), hb⟩ from Fin.ext h]
  unfold Value.res_main_v83
  pointwise
  rfl

end Cert.Reference7Ideal.Ln

namespace Cert

open Idealize.ShloMosaic Idealize.ShloMosaic.TcCoe Idealize.SL.Sem

theorem algebraic7 : Cert.algebraic_Kernel7Ideal_Reference7Ideal := by
  intro m ρ m' ρ' _ hagree
  refine ⟨_, _, Kernel7Ideal.Ln.value m ρ, ?_⟩
  refine (θ_run Cert.Reference7Ideal.defs _ _).mono (fun _ h c => ?_) (Cert.Reference7Ideal.Value.run (F := Ideal) m' ρ')
  obtain ⟨h1, h2, h3⟩ := h c
  refine ⟨h1.trans ?_, h2.trans ?_, h3⟩
  · funext i
    have hi0 : (i 0).val < 16 := (i 0).isLt
    have hi1 : (i 1).val < 256 := (i 1).isLt
    refine (Reference7Ideal.Ln.prompt_apply m' c i ⟨(i 0).val * 256 + (i 1).val, by omega⟩ rfl).trans ?_
    rw [(hagree c).1, (hagree c).2.1, (hagree c).2.2.1, (hagree c).2.2.2.1, (hagree c).2.2.2.2]
    exact (Kernel7Ideal.Ln.prompt_apply i ⟨(i 0).val * 256 + (i 1).val, by omega⟩ rfl (Kernel7Ideal.Ln.G m c)).symm
  · funext i
    have hi0 : (i 0).val < 2 := (i 0).isLt
    have hi1 : (i 1).val < 4096 := (i 1).isLt
    refine (Reference7Ideal.Ln.sample_apply m' c i ⟨4096 + ((i 0).val * 4096 + (i 1).val), by omega⟩ rfl).trans ?_
    rw [(hagree c).1, (hagree c).2.1, (hagree c).2.2.1, (hagree c).2.2.2.1, (hagree c).2.2.2.2]
    exact (Kernel7Ideal.Ln.sample_apply i ⟨4096 + ((i 0).val * 4096 + (i 1).val), by omega⟩ rfl (Kernel7Ideal.Ln.G m c)).symm

end Cert
-- ==== Proof.GmmLoop.lean ====
/- The grouped product's two loops of row transfers: the one that starts them and the one that waits for them. -/
module

public import proofs.«01_k».proof.Defs
public import proofs.«01_k».proof.Proof.Gen.Kernel8Ideal
public import proofs.«01_k».proof.Proof.Gen.Kernel8Ideal.Skeleton
public import proofs.«01_k».proof.Proof.Gen.Kernel8Ideal.Launch
public import Idealize.ShloMosaic.Lib.Batch
public import Idealize.ShloMosaic.Lib.Ring
public import Idealize.ShloMosaic.Lib.Tactic
public import Idealize.ShloMosaic.Lib.Pipeline.Frame

@[expose] public section

noncomputable section

namespace Cert.Kernel8Ideal.Gmm

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Rows -/

theorem inbG (r : Fin 512) : ∀ a, (![r.val, 0] : Fin 2 → Nat) a + S1x4096.size a ≤ S512x4096.size a := by
  have := r.isLt; intro a; fin_cases a
  · show r.val + 1 ≤ 512; omega
  · show 0 + 4096 ≤ 4096; omega
theorem inbX (w : Fin 12288) : ∀ a, (![w.val, 0] : Fin 2 → Nat) a + S1x4096.size a ≤ S12288x4096.size a := by
  have := w.isLt; intro a; fin_cases a
  · show w.val + 1 ≤ 12288; omega
  · show 0 + 4096 ≤ 4096; omega

/-- Row `r` of the gathered tile. -/
def gRow (r : Fin 512) : Memref sig .tc .vmem S1x4096 .f32 :=
  (Memref.whole cc0_scratch0).slice (Rect.unit (s := S512x4096) ![r.val, 0] S1x4096.size (inbG r)) (fun _ => rfl)
/-- Row `w` of the tokens' array. -/
def xRow (w : Fin 12288) : Memref sig .tc .hbm S1x4096 .f32 :=
  (Memref.whole main_arg0).slice (Rect.unit (s := S12288x4096) ![w.val, 0] S1x4096.size (inbX w)) (fun _ => rfl)

abbrev gset (r : Fin 512) : Finset S512x4096.Idx := (Rect.unit (s := S512x4096) ![r.val, 0] S1x4096.size (inbG r)).set
abbrev xset (w : Fin 12288) : Finset S12288x4096.Idx := (Rect.unit (s := S12288x4096) ![w.val, 0] S1x4096.size (inbX w)).set

theorem gRow_set (r : Fin 512) : (gRow r).view.set = gset r := by unfold gRow; exact View.set_slice_whole _ _
theorem xRow_set (w : Fin 12288) : (xRow w).view.set = xset w := by unfold xRow; exact View.set_slice_whole _ _

theorem mem_gset (r : Fin 512) (y : S512x4096.Idx) : y ∈ gset r ↔ (y 0).val = r.val := by
  rw [Rect.mem_set_unit]
  have h1 : (y 1).val < 4096 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 4096; omega
theorem gset_disjoint : ∀ b b' : Fin 512, b ≠ b' → Disjoint (gset b) (gset b') := fun b b' hne => by
  rw [Finset.disjoint_left]; intro y hy hy'; rw [mem_gset] at hy hy'; exact hne (Fin.ext (by omega))
theorem gset_cover : Finset.univ.biUnion gset = Finset.univ := by
  ext y; simp only [Finset.mem_biUnion, Finset.mem_univ, true_and, iff_true]; exact ⟨y 0, (mem_gset _ _).mpr rfl⟩

abbrev XBuf (F : FTy → Type) := S12288x4096.Idx → Elt F .f32
abbrev GBuf (F : FTy → Type) := S512x4096.Idx → Elt F .f32

/-- The gathered tile: row `r` is row `tok r` of the tokens' array. -/
def gath (tok : Fin 512 → Fin 12288) (x : XBuf F) : GBuf F := fun y => x (fun a => match a with | ⟨0, _⟩ => tok (y 0) | ⟨1, _⟩ => y 1)

abbrev xLoc (c : Dev nD) := (Memref.whole main_arg0 : Memref sig .tc .hbm S12288x4096 .f32).view.loc (c : Thread nD τ)
abbrev gLoc (c : Dev nD) := (Memref.whole cc0_scratch0 : Memref sig .tc .vmem S512x4096 .f32).view.loc (c : Thread nD τ)

variable (c : Dev nD) (x : XBuf F)

/-- Row `r` of the tile at `f`, beside the row of the tokens' array to be copied into it. -/
abbrev rowR (tok : Fin 512 → Fin 12288) (f : GBuf F) (r : Fin 512) : sProp 𝕄 :=
  iprop((gLoc c ↦[gset r]{fullShare} f) ∗ (xLoc c ↦[xset (tok r)]{Transfers.shareTokN fullShare r.val} x))
/-- What transfer `r` delivers. -/
def rowD (tok : Fin 512 → Fin 12288) (r : Fin 512) : sProp 𝕄 := rowR c x tok (gath tok x) r
instance rowD_storable (tok : Fin 512 → Fin 12288) (r : Fin 512) : Storable (upEmb : UEmb _ 𝕄) (rowD c x tok r) := by
  unfold rowD rowR; infer_instance

/-- What stays here of the tokens' array while the transfers are in flight. -/
abbrev kept (tok : Fin 512 → Fin 12288) : sProp 𝕄 :=
  iprop((xLoc c ↦{Transfers.shareDrop fullShare 512} x)
    ∗ bigSep Finset.univ fun r : Fin 512 => xLoc c ↦[Finset.univ \ xset (tok r)]{Transfers.shareTokN fullShare r.val} x)

theorem x_row (r : Fin 512) (w : Fin 12288) :
    (xLoc c ↦{Transfers.shareTokN fullShare r.val} x : sProp 𝕄) ⊣⊢ iprop((xLoc c ↦[xset w]{Transfers.shareTokN fullShare r.val} x)
      ∗ (xLoc c ↦[Finset.univ \ xset w]{Transfers.shareTokN fullShare r.val} x)) :=
  pointsTo_split_subset (Finset.subset_univ _)

theorem apart (Φ Ψ : Fin 512 → sProp 𝕄) :
    bigSep Finset.univ (fun r => iprop(Φ r ∗ Ψ r)) = (iprop(bigSep Finset.univ Φ ∗ bigSep Finset.univ Ψ) : sProp 𝕄) := BI.bigSep_sep _ _ _

/-- The tokens' array and the tile whole are, row by row, what the copies take, and what is kept meanwhile. -/
theorem rows_split (tok : Fin 512 → Fin 12288) (f : GBuf F) :
    (iprop((xLoc c ↦{fullShare} x) ∗ (gLoc c ↦{fullShare} f)) : sProp 𝕄) ⊢ iprop(kept c x tok ∗ bigSep Finset.univ (rowR c x tok f)) := by
  iintro ⟨HX, HG⟩
  ihave HX' := (Transfers.pointsTo_toks fullShare 512).1 $$ HX
  icases HX' with ⟨HD, HT⟩
  ihave HT' := (show bigSep Finset.univ (fun r : Fin 512 => (xLoc c ↦{Transfers.shareTokN fullShare r.val} x : sProp 𝕄)) ⊢
      iprop((bigSep Finset.univ fun r : Fin 512 => xLoc c ↦[xset (tok r)]{Transfers.shareTokN fullShare r.val} x)
        ∗ bigSep Finset.univ fun r : Fin 512 => xLoc c ↦[Finset.univ \ xset (tok r)]{Transfers.shareTokN fullShare r.val} x) from
    (BI.bigSep_mono fun r _ => (x_row c x r (tok r)).1).trans (Entails.of_eq (apart _ _))) $$ HT
  icases HT' with ⟨HT1, HT2⟩
  isplitl [HD HT2]; · isplitl [HD] <;> iassumption
  ihave HG' := (Entails.of_eq (Ring.pointsTo_blocks (ℓ := gLoc c) (q := fullShare) gset gset_disjoint gset_cover f)) $$ HG
  unfold rowR
  rw [apart]
  isplitl [HG'] <;> iassumption

theorem rows_join (tok : Fin 512 → Fin 12288) :
    iprop(kept c x tok ∗ bigSep Finset.univ (rowD c x tok)) ⊢ (iprop((xLoc c ↦{fullShare} x) ∗ (gLoc c ↦{fullShare} gath tok x)) : sProp 𝕄) := by
  unfold rowD rowR
  rw [apart]
  iintro ⟨⟨HD, HT2⟩, HG, HT1⟩
  isplitl [HD HT1 HT2]
  · iapply (Transfers.pointsTo_toks fullShare 512).2
    isplitl [HD]; · iexact HD
    iapply ((Entails.of_eq (apart _ _).symm).trans (BI.bigSep_mono fun r _ => (x_row c x r (tok r)).2))
    isplitl [HT1] <;> iassumption
  · iapply (Entails.of_eq (Ring.pointsTo_blocks (ℓ := gLoc c) (q := fullShare) gset gset_disjoint gset_cover (gath tok x)).symm)
    iexact HG

abbrev NN : ℕ := 512
theorem amount_gRow (r : Fin 512) : (gRow r).view.amount (sig := sig) (.dma cc0_scratch3.sem) = NN := by
  unfold gRow; rfl

abbrev batch (tok : Fin 512 → Fin 12288) (k u : ℕ) : sProp 𝕄 :=
  Transfers.Batch (countersEmb (U := Pipeline.UD sig nD τ)) (c : Thread nD τ) (.dma cc0_scratch3.sem) () NN (rowD c x tok) k u

/-- A landed row is the gathered tile's. -/
theorem land (tok : Fin 512 → Fin 12288) (f : GBuf F) (r : Fin 512) :
    ((gLoc c ↦[gset r]{fullShare} ((gRow r).view.write (Elt F) f (ReadAs.same.apply ((xRow (tok r)).view.read (Elt F) x)) Finset.univ)) : sProp 𝕄)
      = (gLoc c ↦[gset r]{fullShare} gath tok x) := by
  refine pointsTo_congr fun y hy => ?_
  rw [← gRow_set] at hy
  obtain ⟨z, -, rfl⟩ := Finset.mem_map.mp hy
  have h := congrFun (View.read_write_univ (v := (gRow r).view) (Val := Elt F) f (ReadAs.same.apply ((xRow (tok r)).view.read (Elt F) x))) z
  rw [View.read_apply] at h
  refine (show _ = _ from h).trans ?_
  refine (show _ = x ((xRow (tok r)).view.emb z) from View.read_apply (v := (xRow (tok r)).view) (Val := Elt F) x z).trans ?_
  show x ((xRow (tok r)).view.emb z) = x _
  congr 1
  have hz : (z 0).val < 1 := (z 0).isLt
  have hg0 : ((gRow r).view.emb z (0 : Fin 2)).val = r.val + 1 * (z 0).val := rfl
  funext a
  match a with
  | ⟨0, _⟩ =>
    have h0 : (gRow r).view.emb z (0 : Fin 2) = r := Fin.ext (by rw [hg0]; omega)
    refine Fin.ext ?_
    show (tok r).val + 1 * (z 0).val = (tok ((gRow r).view.emb z (0 : Fin 2))).val
    rw [h0]; omega
  | ⟨1, _⟩ => rfl

abbrev tokAt (arg4 : Memref sig .tc .smem S1x1x512 .i32) (f4 : Buf (Elt F) (arg4.view.loc (c : Thread nD τ))) (r : Fin 512) : BitVec 32 :=
  arg4.view.read (Elt F) f4 (fun a => match a with | ⟨0, _⟩ => (0 : Fin 1) | ⟨1, _⟩ => (0 : Fin 1) | ⟨2, _⟩ => r)

theorem xRow_of (w : Fin 12288) : ∀ (o : Fin 2 → ℕ) (h : ∀ a, o a + S1x4096.size a ≤ S12288x4096.size a), o = ![w.val, 0] →
    (Memref.whole main_arg0 : Memref sig .tc .hbm S12288x4096 .f32).slice (Rect.unit (s := S12288x4096) o S1x4096.size h) (fun _ => rfl) = xRow w := by
  rintro _ _ rfl; rfl
theorem gRow_of (r : Fin 512) : ∀ (o : Fin 2 → ℕ) (h : ∀ a, o a + S1x4096.size a ≤ S512x4096.size a), o = ![r.val, 0] →
    (Memref.whole cc0_scratch0 : Memref sig .tc .vmem S512x4096 .f32).slice (Rect.unit (s := S512x4096) o S1x4096.size h) (fun _ => rfl) = gRow r := by
  rintro _ _ rfl; rfl
theorem tok_of (arg4 : Memref sig .tc .smem S1x1x512 .i32) (f4 : Buf (Elt F) (arg4.view.loc (c : Thread nD τ))) (r : Fin 512) :
    ∀ (o : Fin 3 → ℕ) (h : ∀ a, o a + S1x1x1.size a ≤ S1x1x512.size a) (z : S1x1x1.Idx), o = ![0, 0, r.val] →
    View.readAt (Elt F) arg4.view (Rect.unit (s := S1x1x512) o S1x1x1.size h).toLoadRect f4 z = tokAt c arg4 f4 r := by
  rintro _ h z rfl
  rw [View.readAt_apply]
  unfold tokAt
  congr 1
  have h0 : (z 0).val < 1 := (z 0).isLt
  have h1 : (z 1).val < 1 := (z 1).isLt
  have h2 : (z 2).val < 1 := (z 2).isLt
  funext a
  match a with
  | ⟨0, _⟩ => refine Fin.ext ?_; show 0 + 1 * (z 0).val = 0; omega
  | ⟨1, _⟩ => refine Fin.ext ?_; show 0 + 1 * (z 1).val = 0; omega
  | ⟨2, _⟩ => refine Fin.ext ?_; show r.val + 1 * (z 2).val = r.val; omega

theorem iv_val (k : ℕ) (hk : k < 512) : (Scf.iv 0#32 1#32 k).toNat = k := by
  unfold Scf.iv
  simp only [BitVec.toNat_add, BitVec.toNat_mul, BitVec.toNat_ofNat]
  omega

theorem off2_eq (k : Fin k0_t1_loop.trips) (hk : k.val < 512) : k0_off2 k = ![0, 0, (⟨k.val, hk⟩ : Fin 512).val] := by
  show ![0, 0, (Scf.iv 0#32 1#32 k.val).toNat] = _; rw [iv_val _ hk]
theorem off3_eq (k : Fin k0_t1_loop.trips) (hk : k.val < 512) : k0_off3 k = ![(⟨k.val, hk⟩ : Fin 512).val, 0] := by
  show ![(Scf.iv 0#32 1#32 k.val).toNat, 0] = _; rw [iv_val _ hk]
theorem off4_eq (v : BitVec 32) (w : Fin 12288) (h : v.toNat = w.val) : k0_off4 v = ![w.val, 0] := by
  show ![v.toNat, 0] = _; rw [h]
theorem off5_eq (k : Fin k0_t2_loop.trips) (hk : k.val < 512) : k0_off5 k = ![(⟨k.val, hk⟩ : Fin 512).val, 0] := by
  show ![(Scf.iv 0#32 1#32 k.val).toNat, 0] = _; rw [iv_val _ hk]
theorem off7_eq (k : Fin k0_t3_loop.trips) (hk : k.val < 512) : k0_off7 k = ![0, 0, (⟨k.val, hk⟩ : Fin 512).val] := by
  show ![0, 0, (Scf.iv 0#32 1#32 k.val).toNat] = _; rw [iv_val _ hk]
theorem off8_eq (k : Fin k0_t3_loop.trips) (hk : k.val < 512) : k0_off8 k = ![(⟨k.val, hk⟩ : Fin 512).val, 0] := by
  show ![(Scf.iv 0#32 1#32 k.val).toNat, 0] = _; rw [iv_val _ hk]
theorem off9_eq (v : BitVec 32) (w : Fin 12288) (h : v.toNat = w.val) : k0_off9 v = ![w.val, 0] := by
  show ![v.toNat, 0] = _; rw [h]

theorem t2_trips : k0_t2_loop.trips = 512 := by decide
theorem t3_trips : k0_t3_loop.trips = 512 := by decide
theorem t1_trips : k0_t1_loop.trips = 512 := by decide

/-- Before trip `k` of an issuing loop: `k` copies under way, the rows from `k` on still here. -/
def issueAt (tok : Fin 512 → Fin 12288) (f : GBuf F) (arg4 : Memref sig .tc .smem S1x1x512 .i32) (f4 : Buf (Elt F) (arg4.view.loc (c : Thread nD τ)))
    (k : ℕ) (_ : Unit) : sProp 𝕄 :=
  iprop(batch c x tok k 0 ∗ bigSep (Ring.rangeSet 512 k 512) (rowR c x tok f)
    ∗ (arg4.view.loc (c : Thread nD τ) ↦[arg4.view.set]{fullShare} f4))

/-- One copy issued: row `k`'s two ends go to the batch. -/
theorem issue_one (tok : Fin 512 → Fin 12288) (f : GBuf F) (k : Fin 512)
    {src : Memref sig .tc .hbm S1x4096 .f32} {dst : Memref sig .tc .vmem S1x4096 .f32} (hs : src = xRow (tok k)) (hd : dst = gRow k)
    {hsrc : src.view.WordExact} {hdst : dst.view.WordExact} {hsem : DmaTarget.Typed (nD := nD) (τ := τ) (p := .tc) .hbm (.dma cc0_scratch3.sem) (.here dst)}
    (K : PUnit → Prog (TpuEff nD τ sig (Elt F) Λ₀ .tc) Unit) (Q : Unit → sProp 𝕄) :
    iprop(batch c x tok k.val 0 ∗ rowR c x tok f k)
      ⊢ iprop((batch c x tok (k.val + 1) 0 -∗ wp frame (wpE (defs₀ (F := F)) Variants.none (c : Thread nD τ) none) Set.univ (K ⟨⟩) Q)
      -∗ wp frame (wpE (defs₀ (F := F)) Variants.none (c : Thread nD τ) none) Set.univ
        (.op (.enqueueDma src (.here dst) (.dma cc0_scratch3.sem) hsrc hdst hsem) K) Q) := by
  subst hs hd
  have key := Transfers.wp_dmaBatch (countersEmb (U := Pipeline.UD sig nD τ)) (defs := defs₀ (F := F)) Variants.none (c : Thread nD τ) none (src := xRow (tok k)) (dst := gRow k) (via := ReadAs.same) (D := rowD c x tok) (q := Transfers.shareTokN fullShare k.val) (fs := x) (fd := f)
    (Sd := (gRow k).view.set) (hsrc := hsrc) (hdst := hdst) (hsem := hsem) (k := K) (Q := Q) (j := k.val) (u := 0)
    () NN (amount_gRow k) (Finset.Subset.refl _) k.isLt (Nat.zero_le _)
    (by unfold rowD; rw [gRow_set, xRow_set]; exact (Entails.of_eq (congrArg (fun P : sProp 𝕄 => iprop(P ∗ _)) (land c x tok f k))))
  rw [gRow_set, xRow_set] at key
  iintro ⟨HB, ⟨HG, HX⟩⟩
  iapply key
  isplitl [HX]; · iexact HX
  isplitl [HG]; · iexact HG
  iexact HB

theorem t1_step (tok : Fin 512 → Fin 12288) (f : GBuf F) (arg4 : Memref sig .tc .smem S1x1x512 .i32) (f4 : Buf (Elt F) (arg4.view.loc (c : Thread nD τ)))
    (htok : ∀ r, (tokAt c arg4 f4 r).toNat = (tok r).val)
    (i : grid0.Coords) (arg2 : Memref sig .tc .smem S128 .i32) (harg2 : arg2.IsWhole) (arg3 : Memref sig .tc .smem S128 .i32) (harg3 : arg3.IsWhole) (harg4 : arg4.IsWhole) (arg5 : Memref sig .tc .smem S1x1x512 .i32) (harg5 : arg5.IsWhole) (arg7 : Memref sig .tc .vmem S1x1x4096x512 .f32) (harg7 : arg7.IsWhole) (arg8 : Memref sig .tc .vmem S1x1x1x512 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S512x1024 .f32) (harg11 : arg11.IsWhole) (arg13 : Memref sig .tc .vmem S512x4096 .bf16) (harg13 : arg13.IsWhole) (arg14 : Memref sig .tc .vmem S4x512x256 .bf16) (harg14 : arg14.IsWhole)
    (v1 : Elt F .i32) (h1 : k0_cond1 i v1 = 1#1) (h2 : k0_cond2 i = 1#1) (k : Fin k0_t1_loop.trips) (acc : Unit) :
    issueAt c x tok f arg4 f4 k.val acc ⊢ wp frame (wpE (defs₀ (F := F)) Variants.none (c : Thread nD τ) none) Set.univ
      (k0_t1_body i arg2 harg2 arg3 harg3 arg4 harg4 arg5 harg5 (Memref.whole main_arg0) (Memref.isWhole_whole _) arg7 harg7 arg8 harg8 arg9 harg9 arg10 harg10 arg11 harg11 (Memref.whole cc0_scratch0) (Memref.isWhole_whole _) arg13 harg13 arg14 harg14 cc0_scratch3 v1 h1 h2 k acc)
      (issueAt c x tok f arg4 f4 (k.val + 1)) := by
  have hk : k.val < 512 := lt_of_lt_of_eq k.isLt t1_trips
  unfold issueAt
  rw [Ring.bigSep_rangeSet_head (Φ := rowR c x tok f) (by omega) hk]
  iintro ⟨HB, ⟨⟨HG, HX⟩, HR⟩, H4⟩
  unfold k0_t1_body
  dsimp only
  sl_exec
  have hv : (t1_step.sl.r c arg4 f4 i h2 k).toNat = (tok ⟨k.val, hk⟩).val := by
    unfold t1_step.sl.r
    exact (congrArg BitVec.toNat (tok_of c arg4 f4 ⟨k.val, hk⟩ _ (k0_off2_inb i k h2) _ (off2_eq k hk))).trans (htok _)
  generalize t1_step.sl.r c arg4 f4 i h2 k = v53 at hv ⊢
  have hck : k0_chk1 i v1 v53 := fun _ _ a => by
    rw [off4_eq v53 _ hv]; exact inbX _ a
  sl_exec
  ihave HW := (issue_one c x tok f ⟨k.val, hk⟩ (xRow_of _ _ _ (off4_eq v53 _ hv)) (gRow_of _ _ _ (off3_eq k hk)) _ _) $$ [HB HG HX]
  · isplitl [HB]; · iexact HB
    isplitl [HG] <;> iassumption
  iapply HW
  iintro HB
  sl_step
  isplitl [HB]; · iexact HB
  isplitl [HR] <;> iassumption

theorem t3_step (tok : Fin 512 → Fin 12288) (f : GBuf F) (arg5 : Memref sig .tc .smem S1x1x512 .i32) (f4 : Buf (Elt F) (arg5.view.loc (c : Thread nD τ)))
    (htok : ∀ r, (tokAt c arg5 f4 r).toNat = (tok r).val)
    (i : grid0.Coords) (arg2 : Memref sig .tc .smem S128 .i32) (harg2 : arg2.IsWhole) (arg3 : Memref sig .tc .smem S128 .i32) (harg3 : arg3.IsWhole) (harg5 : arg5.IsWhole) (arg4 : Memref sig .tc .smem S1x1x512 .i32) (harg4 : arg4.IsWhole) (arg7 : Memref sig .tc .vmem S1x1x4096x512 .f32) (harg7 : arg7.IsWhole) (arg8 : Memref sig .tc .vmem S1x1x1x512 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S512x1024 .f32) (harg11 : arg11.IsWhole) (arg13 : Memref sig .tc .vmem S512x4096 .bf16) (harg13 : arg13.IsWhole) (arg14 : Memref sig .tc .vmem S4x512x256 .bf16) (harg14 : arg14.IsWhole)
    (v1 : Elt F .i32) (h1 : k0_cond1 i v1 = 1#1) (v46 : Elt F .i32) (h3 : k0_cond3 i v46 = 1#1) (k : Fin k0_t3_loop.trips) (acc : Unit) :
    issueAt c x tok f arg5 f4 k.val acc ⊢ wp frame (wpE (defs₀ (F := F)) Variants.none (c : Thread nD τ) none) Set.univ
      (k0_t3_body i arg2 harg2 arg3 harg3 arg4 harg4 arg5 harg5 (Memref.whole main_arg0) (Memref.isWhole_whole _) arg7 harg7 arg8 harg8 arg9 harg9 arg10 harg10 arg11 harg11 (Memref.whole cc0_scratch0) (Memref.isWhole_whole _) arg13 harg13 arg14 harg14 cc0_scratch3 v1 h1 v46 h3 k acc)
      (issueAt c x tok f arg5 f4 (k.val + 1)) := by
  have hk : k.val < 512 := lt_of_lt_of_eq k.isLt t3_trips
  unfold issueAt
  rw [Ring.bigSep_rangeSet_head (Φ := rowR c x tok f) (by omega) hk]
  iintro ⟨HB, ⟨⟨HG, HX⟩, HR⟩, H4⟩
  unfold k0_t3_body
  dsimp only
  sl_exec
  have hv : (t3_step.sl.r c arg5 f4 k).toNat = (tok ⟨k.val, hk⟩).val := by
    unfold t3_step.sl.r
    exact (congrArg BitVec.toNat (tok_of c arg5 f4 ⟨k.val, hk⟩ _ (k0_off7_inb k) _ (off7_eq k hk))).trans (htok _)
  generalize t3_step.sl.r c arg5 f4 k = v53 at hv ⊢
  have hck : k0_chk2 i v1 v46 v53 := fun _ _ a => by
    rw [off9_eq v53 _ hv]; exact inbX _ a
  sl_exec
  ihave HW := (issue_one c x tok f ⟨k.val, hk⟩ (xRow_of _ _ _ (off9_eq v53 _ hv)) (gRow_of _ _ _ (off8_eq k hk)) _ _) $$ [HB HG HX]
  · isplitl [HB]; · iexact HB
    isplitl [HG] <;> iassumption
  iapply HW
  iintro HB
  sl_step
  isplitl [HB]; · iexact HB
  isplitl [HR] <;> iassumption

/-- Before trip `k` of the waiting loop: `k` rows waited for; after the last, every row landed. -/
def drainAt (tok : Fin 512 → Fin 12288) (k : ℕ) (_ : Unit) : sProp 𝕄 :=
  iprop((∃ W, owes (c : Thread nD τ) 0 W)
    ∗ (if k < 512 then batch c x tok 512 (k * NN)
       else iprop(semVal ((c : Thread nD τ), SemLoc.dma cc0_scratch3.sem) 0 ∗ bigSep Finset.univ (rowD c x tok))))

theorem t2_step (tok : Fin 512 → Fin 12288)
    (i : grid0.Coords) (arg2 : Memref sig .tc .smem S128 .i32) (harg2 : arg2.IsWhole) (arg3 : Memref sig .tc .smem S128 .i32) (harg3 : arg3.IsWhole) (arg4 : Memref sig .tc .smem S1x1x512 .i32) (harg4 : arg4.IsWhole) (arg5 : Memref sig .tc .smem S1x1x512 .i32) (harg5 : arg5.IsWhole) (arg7 : Memref sig .tc .vmem S1x1x4096x512 .f32) (harg7 : arg7.IsWhole) (arg8 : Memref sig .tc .vmem S1x1x1x512 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S512x1024 .f32) (harg11 : arg11.IsWhole) (arg13 : Memref sig .tc .vmem S512x4096 .bf16) (harg13 : arg13.IsWhole) (arg14 : Memref sig .tc .vmem S4x512x256 .bf16) (harg14 : arg14.IsWhole)
    (k : Fin k0_t2_loop.trips) (acc : Unit) :
    drainAt c x tok k.val acc ⊢ wp frame (wpE (defs₀ (F := F)) Variants.none (c : Thread nD τ) none) Set.univ
      (k0_t2_body i arg2 harg2 arg3 harg3 arg4 harg4 arg5 harg5 (Memref.whole main_arg0) (Memref.isWhole_whole _) arg7 harg7 arg8 harg8 arg9 harg9 arg10 harg10 arg11 harg11 (Memref.whole cc0_scratch0) (Memref.isWhole_whole _) arg13 harg13 arg14 harg14 cc0_scratch3 k acc)
      (drainAt c x tok (k.val + 1)) := by
  have hk : k.val < 512 := lt_of_lt_of_eq k.isLt t2_trips
  unfold drainAt
  simp only [if_pos hk]
  rcases Nat.lt_or_ge (k.val + 1) 512 with h1 | h1
  · simp only [if_pos h1]
    iintro ⟨⟨%W, HO⟩, HB⟩
    unfold k0_t2_body
    dsimp only
    sl_exec
    sl_step
    isplitl [HO]; · iexists _; iexact HO
    rw [show (k.val + 1) * NN = k.val * NN + NN by simp only [NN]; omega]
    iexact HB
  · simp only [if_neg (Nat.not_lt.mpr h1)]
    iintro ⟨⟨%W, HO⟩, HB⟩
    unfold k0_t2_body
    dsimp only
    sl_exec
    sl_step
    isplitl [HO]; · iexists _; iexact HO
    isplitl [HB]; · iexact HB
    iexact HB_all

end Cert.Kernel8Ideal.Gmm

end
-- ==== Proof.GmmBody.lean ====
/- The grouped product's body at a grid point: what each of its branches leaves in the buffers. -/
module

public import proofs.«01_k».proof.Proof.GmmLoop
public import Idealize.ShloMosaic.Lib.VecWindow
public import Idealize.ShloMosaic.Lib.Tactic.Stretches
public import Idealize.ShloMosaic.Lib.Pipeline.FrameBody
public import Idealize.ShloMosaic.Lib.Pipeline.Value

@[expose] public section

noncomputable section

namespace Cert.Kernel8Ideal.Gmm

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's conditions -/

/-- The condition of the row block `jj`'s branch, of the tile's word and the point's second coordinate. -/
abbrev slabC (i : grid0.Coords) (v jj : BitVec 32) : BitVec 1 :=
  Scalar.cmpi .ne (Scalar.extui (Scalar.andi (Scalar.cmpi .ne v 0#32) (Scalar.cmpi .eq (BitVec.ofNat 32 (i 1).val) jj)) : BitVec 32) 0#32

theorem off_conds (i : grid0.Coords) {v : BitVec 32} (hv : v = 0#32) : ¬ k0_cond1 i v = 1#1 ∧ ¬ slabC i v 0#32 = 1#1 ∧ ¬ slabC i v 1#32 = 1#1
    ∧ ¬ slabC i v 2#32 = 1#1 ∧ ¬ slabC i v 3#32 = 1#1 ∧ ¬ k0_cond8 i v = 1#1 := by
  subst hv
  unfold slabC k0_cond1 k0_cond8
  generalize (i 1) = j
  revert j; decide

theorem cond9_iff (i : grid0.Coords) {v : BitVec 32} : (v = 0#32 → (k0_cond9 i v = 1#1 ↔ 4 ≤ (i 1).val)) ∧ (v = 1#32 → ¬ k0_cond9 i v = 1#1) := by
  refine ⟨?_, ?_⟩ <;> rintro rfl <;> unfold k0_cond9 <;> generalize (i 1) = j <;> revert j <;> decide

theorem on_conds (i : grid0.Coords) {v : BitVec 32} (hv : v = 1#32) : (k0_cond1 i v = 1#1 ↔ (i 1).val = 0) ∧ (slabC i v 0#32 = 1#1 ↔ (i 1).val = 0)
    ∧ (slabC i v 1#32 = 1#1 ↔ (i 1).val = 1) ∧ (slabC i v 2#32 = 1#1 ↔ (i 1).val = 2) ∧ (slabC i v 3#32 = 1#1 ↔ (i 1).val = 3)
    ∧ (k0_cond8 i v = 1#1 ↔ 4 ≤ (i 1).val) := by
  subst hv
  unfold slabC k0_cond1 k0_cond8
  generalize (i 1) = j
  revert j; decide

/-! ## The body, case by case -/

section
variable (c : Dev nD) (i : grid0.Coords) (arg4 : Memref sig .tc .smem S1x1x512 .i32) (harg4 : arg4.IsWhole) (arg5 : Memref sig .tc .smem S1x1x512 .i32) (harg5 : arg5.IsWhole) (arg7 : Memref sig .tc .vmem S1x1x4096x512 .f32) (harg7 : arg7.IsWhole) (arg8 : Memref sig .tc .vmem S1x1x1x512 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S512x1024 .f32) (harg11 : arg11.IsWhole)

/-- The kernel's body on the buffers it is called with. -/
abbrev bodyOf : Prog (TpuEff nD τ sig (Elt F) Λ₀ .tc) PUnit :=
  cc0_moe_gmm i (Memref.whole main_arg2) (Memref.isWhole_whole _) (Memref.whole main_v6) (Memref.isWhole_whole _) arg4 harg4 arg5 harg5 (Memref.whole main_arg0) (Memref.isWhole_whole _) arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) cc0_scratch3

abbrev OnM : Memref sig .tc .smem S128 .i32 := Memref.whole main_v6
abbrev XbM : Memref sig .tc .vmem S512x4096 .bf16 := Memref.whole cc0_scratch1
abbrev AcM : Memref sig .tc .vmem S4x512x256 .bf16 := Memref.whole cc0_scratch2

/-- The word of the used tiles' table at the point's tile. -/
abbrev onAt (f3 : Buf (Elt F) (OnM.view.loc (c : Thread nD τ))) : S1.Idx → BitVec 32 :=
  View.readAt (Elt F) OnM.view (Rect.unit (s := S128) (k0_off1 i) S1.size (k0_off1_inb i)).toLoadRect f3

abbrev tab (q : PosShare TreeShare) (f3 : Buf (Elt F) (OnM.view.loc (c : Thread nD τ))) : sProp 𝕄 := OnM.view.loc (c : Thread nD τ) ↦{q} f3

/-- A tile out of use, at a point that computes a row block: nothing is done. -/
theorem off_lo (q : PosShare TreeShare) (f3 : Buf (Elt F) (OnM.view.loc (c : Thread nD τ))) (hon : ∀ z, onAt c i f3 z = 0#32) (hj : (i 1).val < 4) (K : PUnit → sProp 𝕄) :
    iprop(tab c q f3 ∗ (tab c q f3 -∗ K ⟨⟩))
      ⊢ wp frame (wpE (defs₀ (F := F)) Variants.none c none) Set.univ (bodyOf i arg4 harg4 arg5 harg5 arg7 harg7 arg8 harg8 arg9 harg9 arg10 harg10 arg11 harg11) K := by
  unfold bodyOf
  simp only [cc0_moe_gmm_eq_skeleton]; unfold cc0_moe_gmm_skel
  iintro ⟨HT, Hk⟩
  sl_exec
  have hv : off_lo.sl.r c i f3 = 0#32 := hon _
  obtain ⟨h1, h4, h5, h6, h7, h8⟩ := off_conds i hv
  have h9 : ¬k0_cond9 i (off_lo.sl.r c i f3) = 1#1 := fun h => by have := ((cond9_iff i).1 hv).mp h; omega
  sl_exec (disch := first | sl_exact h1 | sl_exact h4 | sl_exact h5 | sl_exact h6 | sl_exact h7 | sl_exact h8 | sl_exact h9)
  sl_step
  iapply Hk
  iexact HT

/-- A tile out of use, at a point that computes a column block: zeros. -/
theorem off_hi (q : PosShare TreeShare) (f3 : Buf (Elt F) (OnM.view.loc (c : Thread nD τ))) (hon : ∀ z, onAt c i f3 z = 0#32) (hj : 4 ≤ (i 1).val) (K : PUnit → sProp 𝕄) :
    iprop(tab c q f3 ∗ (∃ d, owns (c : Thread nD τ) arg11 fullShare d) ∗ (tab c q f3 ∗ owns (c : Thread nD τ) arg11 fullShare k0_pay7 -∗ K ⟨⟩))
      ⊢ wp frame (wpE (defs₀ (F := F)) Variants.none c none) Set.univ (bodyOf i arg4 harg4 arg5 harg5 arg7 harg7 arg8 harg8 arg9 harg9 arg10 harg10 arg11 harg11) K := by
  unfold bodyOf
  simp only [cc0_moe_gmm_eq_skeleton]; unfold cc0_moe_gmm_skel
  unfold owns
  iintro ⟨HT, ⟨%d, %f, -, HO⟩, Hk⟩
  sl_exec
  have hv : off_hi.sl.r c i f3 = 0#32 := hon _
  obtain ⟨h1, h4, h5, h6, h7, h8⟩ := off_conds i hv
  have h9 : k0_cond9 i (off_hi.sl.r c i f3) = 1#1 := ((cond9_iff i).1 hv).mpr hj
  sl_exec (disch := first | sl_exact h1 | sl_exact h4 | sl_exact h5 | sl_exact h6 | sl_exact h7 | sl_exact h8 | sl_exact h9)
  sl_step
  iapply Hk
  isplitl [HT]; · iexact HT
  iexists _; isplitr
  swap; · iexact HO
  ipureintro
  exact View.read_writes_full _ _ _ _ _

/-- The products of a tile's row block: the gathered rows by the expert's block, its bias, the gate. -/
def actP (X : Vec F S512x4096 .bf16) (w : Vec F S1x1x4096x512 .f32) (b : Vec F S1x1x1x512 .f32) : FVec F S1x512x256 .bf16 :=
  k0_pay2 (k0_pay16 (k0_pay14 X w b) (k0_pay15 X w b)) (k0_pay18 (F := F)) (k0_pay22 (k0_pay8 X w b)) (k0_pay23 (k0_pay8 X w b))

theorem slab_inb (j : Fin 4) : ∀ a, (![j.val, 0, 0] : Fin 3 → ℕ) a + S1x512x256.size a ≤ S4x512x256.size a := by
  intro a; fin_cases j <;> fin_cases a <;> decide
theorem wrow_inb (j : Fin 4) : ∀ a, (![0, 0, 256 * j.val, 0] : Fin 4 → ℕ) a + S1x1x256x1024.size a ≤ S1x1x1024x1024.size a := by
  intro a; fin_cases j <;> fin_cases a <;> decide

/-- Row block `j` of the activations. -/
abbrev slabW (A : Vec F S4x512x256 .bf16) (j : Fin 4) : Vec F S1x512x256 .bf16 := VecWindow.window A ![j.val, 0, 0] S1x512x256.size (slab_inb j)
/-- The activations with row block `j` replaced. -/
abbrev slabP (A : Vec F S4x512x256 .bf16) (j : Fin 4) (P : Vec F S1x512x256 .bf16) : Vec F S4x512x256 .bf16 := VecWindow.put A ![j.val, 0, 0] S1x512x256.size P
/-- Rows `256 j` to `256 j + 255` of the expert's second block. -/
abbrev wrow (w : Vec F S1x1x1024x1024 .f32) (j : Fin 4) : Vec F S1x1x256x1024 .f32 := VecWindow.window w ![0, 0, 256 * j.val, 0] S1x1x256x1024.size (wrow_inb j)

theorem slab_same (A : Vec F S4x512x256 .bf16) (j : Fin 4) (P : Vec F S1x512x256 .bf16) : slabW (slabP A j P) j = P :=
  VecWindow.window_put_same _ _ _ _ _
theorem slab_other (A : Vec F S4x512x256 .bf16) (j k : Fin 4) (h : k.val < j.val) (P : Vec F S1x512x256 .bf16) : slabW (slabP A j P) k = slabW A k :=
  VecWindow.window_put_of_disjoint (s := S4x512x256) _ _ _ _ _ _ _ (0 : Fin 3) (.inl (by show k.val + 1 ≤ j.val; omega))

/-- The output block: the second bias and the four row blocks' products, in the kernel's order. -/
def outP (b : Vec F S1x1x1x1024 .f32) (w : Vec F S1x1x1024x1024 .f32) (A : Vec F S4x512x256 .bf16) : FVec F S512x1024 .f32 :=
  k0_pay6 (k0_pay72 b (wrow w 0) (slabW A 0) (wrow w 1) (slabW A 1) (wrow w 2) (slabW A 2)) (k0_pay73 (wrow w 3)) (slabW A 3)

/-- A tile in use, at a point that computes row block `jj`, not the first. -/
theorem slab (q : PosShare TreeShare) (f3 : Buf (Elt F) (OnM.view.loc (c : Thread nD τ))) (hon : ∀ z, onAt c i f3 z = 1#32) (jj : Fin 4) (hjj : jj ≠ 0) (hj : (i 1).val = jj.val)
    (X : Vec F S512x4096 .bf16) (w : Vec F S1x1x4096x512 .f32) (b : Vec F S1x1x1x512 .f32) (A : Vec F S4x512x256 .bf16) (K : PUnit → sProp 𝕄) :
    iprop(tab c q f3 ∗ owns (c : Thread nD τ) arg7 fullShare w ∗ owns (c : Thread nD τ) arg8 fullShare b
        ∗ owns (c : Thread nD τ) XbM fullShare X ∗ owns (c : Thread nD τ) AcM fullShare A
        ∗ (tab c q f3 ∗ owns (c : Thread nD τ) arg7 fullShare w ∗ owns (c : Thread nD τ) arg8 fullShare b
          ∗ owns (c : Thread nD τ) XbM fullShare X
          ∗ owns (c : Thread nD τ) AcM fullShare (slabP A jj (actP X w b)) -∗ K ⟨⟩))
      ⊢ wp frame (wpE (defs₀ (F := F)) Variants.none c none) Set.univ (bodyOf i arg4 harg4 arg5 harg5 arg7 harg7 arg8 harg8 arg9 harg9 arg10 harg10 arg11 harg11) K := by
  unfold bodyOf
  simp only [cc0_moe_gmm_eq_skeleton]; unfold cc0_moe_gmm_skel
  unfold owns
  iintro ⟨HT, ⟨%f7, %hf7, H7⟩, ⟨%f8, %hf8, H8⟩, ⟨%fX, %hfX, HX⟩, ⟨%fA, %hfA, HA⟩, Hk⟩
  sl_exec
  have hv : slab.sl.r c i f3 = 1#32 := hon _
  obtain ⟨h1, h4, h5, h6, h7, h8⟩ := on_conds i hv
  have h9 := (cond9_iff i).2 hv
  rw [hj] at h1 h4 h5 h6 h7 h8
  replace h1 := (not_congr h1).mpr (by have := mt Fin.ext hjj; exact this)
  replace h4 := (not_congr h4).mpr (by have := mt Fin.ext hjj; exact this)
  replace h8 := (not_congr h8).mpr (by have := jj.isLt; omega)
  obtain rfl | rfl | rfl : jj = 1 ∨ jj = 2 ∨ jj = 3 := by
    have h := jj.isLt
    have h0 : jj.val ≠ 0 := fun e => hjj (Fin.ext e)
    simp only [Fin.ext_iff]
    show jj.val = 1 ∨ jj.val = 2 ∨ jj.val = 3
    omega
  case' inl => replace h5 := h5.mpr rfl; replace h6 := (not_congr h6).mpr (by decide); replace h7 := (not_congr h7).mpr (by decide)
  case' inr.inl => replace h5 := (not_congr h5).mpr (by decide); replace h6 := h6.mpr rfl; replace h7 := (not_congr h7).mpr (by decide)
  case' inr.inr => replace h5 := (not_congr h5).mpr (by decide); replace h6 := (not_congr h6).mpr (by decide); replace h7 := h7.mpr rfl
  all_goals
    sl_exec (disch := first | sl_exact h1 | sl_exact h4 | sl_exact h5 | sl_exact h6 | sl_exact h7 | sl_exact h8 | sl_exact h9)
    sl_step
    iapply Hk
    isplitl [HT]; · iexact HT
    isplitl [H7]; · iexists _; isplitr; · ipureintro; exact hf7
                    iexact H7
    isplitl [H8]; · iexists _; isplitr; · ipureintro; exact hf8
                    iexact H8
    isplitl [HX]; · iexists _; isplitr; · ipureintro; exact hfX
                    iexact HX
    iexists _; isplitr
    swap; · iexact HA
    ipureintro
    subst hf7 hf8 hfX hfA
    refine (View.read_writes_cons_put _ _ _ _ _ rfl).trans ?_
    rw [View.writes_nil]
    refine congrArg (VecWindow.put _ _ _) ?_
    sl_open_run
    simp only [View.readAt_full (s := S512x4096), View.readAt_full (s := S1x1x4096x512), View.readAt_full (s := S1x1x1x512)]
    rfl

/-- A tile in use, at a point that computes a column block of the output. -/
theorem on_hi (q : PosShare TreeShare) (f3 : Buf (Elt F) (OnM.view.loc (c : Thread nD τ))) (hon : ∀ z, onAt c i f3 z = 1#32) (hj : 4 ≤ (i 1).val)
    (w : Vec F S1x1x1024x1024 .f32) (b : Vec F S1x1x1x1024 .f32) (A : Vec F S4x512x256 .bf16) (K : PUnit → sProp 𝕄) :
    iprop(tab c q f3 ∗ owns (c : Thread nD τ) arg9 fullShare w ∗ owns (c : Thread nD τ) arg10 fullShare b
        ∗ owns (c : Thread nD τ) AcM fullShare A ∗ (∃ d, owns (c : Thread nD τ) arg11 fullShare d)
        ∗ (tab c q f3 ∗ owns (c : Thread nD τ) arg9 fullShare w ∗ owns (c : Thread nD τ) arg10 fullShare b
          ∗ owns (c : Thread nD τ) AcM fullShare A ∗ owns (c : Thread nD τ) arg11 fullShare (outP b w A) -∗ K ⟨⟩))
      ⊢ wp frame (wpE (defs₀ (F := F)) Variants.none c none) Set.univ (bodyOf i arg4 harg4 arg5 harg5 arg7 harg7 arg8 harg8 arg9 harg9 arg10 harg10 arg11 harg11) K := by
  unfold bodyOf
  simp only [cc0_moe_gmm_eq_skeleton]; unfold cc0_moe_gmm_skel
  unfold owns
  iintro ⟨HT, ⟨%f9, %hf9, H9⟩, ⟨%f10, %hf10, H10⟩, ⟨%fA, %hfA, HA⟩, ⟨%d, %f, -, HO⟩, Hk⟩
  sl_exec
  have hv : on_hi.sl.r c i f3 = 1#32 := hon _
  obtain ⟨h1, h4, h5, h6, h7, h8⟩ := on_conds i hv
  have h9 := (cond9_iff i).2 hv
  replace h1 := (not_congr h1).mpr (by omega)
  replace h4 := (not_congr h4).mpr (by omega)
  replace h5 := (not_congr h5).mpr (by omega)
  replace h6 := (not_congr h6).mpr (by omega)
  replace h7 := (not_congr h7).mpr (by omega)
  replace h8 := h8.mpr hj
  sl_exec (disch := first | sl_exact h1 | sl_exact h4 | sl_exact h5 | sl_exact h6 | sl_exact h7 | sl_exact h8 | sl_exact h9)
  sl_step
  iapply Hk
  isplitl [HT]; · iexact HT
  isplitl [H9]; · iexists _; isplitr; · ipureintro; exact hf9
                  iexact H9
  isplitl [H10]; · iexists _; isplitr; · ipureintro; exact hf10
                   iexact H10
  isplitl [HA]; · iexists _; isplitr; · ipureintro; exact hfA
                  iexact HA
  iexists _; isplitr
  swap; · iexact HO
  ipureintro
  subst hf9 hf10 hfA
  refine (View.read_writes_full _ _ _ _ _).trans ?_
  sl_open_run
  simp only [View.readAt_full (s := S1x1x1x1024)]
  rfl

/-! ## A tile's first point -/

/-- No copy under way: the gathered rows' buffer at some contents, the counter at zero, the tokens' array whole. -/
abbrev idle (x : XBuf F) : sProp 𝕄 :=
  iprop((∃ f : GBuf F, gLoc c ↦{fullShare} f) ∗ semVal ((c : Thread nD τ), SemLoc.dma cc0_scratch3.sem) 0 ∗ (xLoc c ↦{fullShare} x))
/-- The tile's 512 copies under way. -/
abbrev fly (x : XBuf F) (tok : Fin 512 → Fin 12288) : sProp 𝕄 := iprop(batch c x tok 512 0 ∗ kept c x tok)

abbrev ix3 (r : Fin 512) : S1x1x512.Idx := fun a => match a with | ⟨0, _⟩ => (0 : Fin 1) | ⟨1, _⟩ => (0 : Fin 1) | ⟨2, _⟩ => r

/-- The word of the used tiles' table at the following tile. -/
abbrev nxAt (f3 : Buf (Elt F) (OnM.view.loc (c : Thread nD τ))) : S1.Idx → BitVec 32 :=
  View.readAt (Elt F) OnM.view (Rect.unit (s := S128) (k0_off6 i) S1.size (k0_off6_inb i)).toLoadRect f3

theorem cond3_of {v nv : BitVec 32} (e : v = nv) (h : k0_cond3 i nv = 1#1) : k0_cond3 i v = 1#1 := e ▸ h
theorem cond3_not {v nv : BitVec 32} (e : v = nv) (h : ¬ k0_cond3 i nv = 1#1) : ¬ k0_cond3 i v = 1#1 := e ▸ h

/-- After the last trip every copy is under way. -/
theorem issue_end (c : Dev nD) (x : XBuf F) (tok : Fin 512 → Fin 12288) (f : GBuf F) (arg4 : Memref sig .tc .smem S1x1x512 .i32) (f4 : Buf (Elt F) (arg4.view.loc (c : Thread nD τ)))
    (n : ℕ) (u : Unit) (h : n = 512) : issueAt c x tok f arg4 f4 n u ⊢ iprop(batch c x tok 512 0 ∗ (arg4.view.loc (c : Thread nD τ) ↦[arg4.view.set]{fullShare} f4)) := by
  subst h
  unfold issueAt
  iintro ⟨HB, -, H4⟩
  isplitl [HB]; · iexact HB
  iexact H4

/-- After the last wait the tile is gathered, the counter at zero and the tokens' array whole. -/
theorem drain_end (c : Dev nD) (x : XBuf F) (tok : Fin 512 → Fin 12288) (n : ℕ) (u : Unit) (h : n = 512) :
    iprop(drainAt c x tok n u ∗ kept c x tok) ⊢ iprop((∃ W, owes (c : Thread nD τ) 0 W) ∗ semVal ((c : Thread nD τ), SemLoc.dma cc0_scratch3.sem) 0
      ∗ (xLoc c ↦{fullShare} x)
      ∗ ((Memref.whole cc0_scratch0 : Memref sig .tc .vmem S512x4096 .f32).view.loc (c : Thread nD τ) ↦{fullShare} gath tok x)) := by
  subst h
  unfold drainAt
  rw [if_neg (lt_irrefl 512)]
  iintro ⟨⟨HW, HC, HR⟩, HK⟩
  isplitl [HW]; · iexact HW
  isplitl [HC]; · iexact HC
  iapply (rows_join c x tok)
  isplitl [HK]; · iexact HK
  iexact HR

theorem on_0 (q : PosShare TreeShare) (f3 : Buf (Elt F) (OnM.view.loc (c : Thread nD τ))) (hon : ∀ z, onAt c i f3 z = 1#32) (hj : (i 1).val = 0)
    (nv : BitVec 32) (hnx : ∀ z, nxAt c i f3 z = nv) (W : Finset (SemLoc sig × Unit)) (x : XBuf F) (tok tok' : Fin 512 → Fin 12288) (d4 d5 : S1x1x512.Idx → BitVec 32)
    (ht4 : k0_cond2 i = 1#1 → ∀ r, (d4 (ix3 r)).toNat = (tok r).val) (ht5 : k0_cond3 i nv = 1#1 → ∀ r, (d5 (ix3 r)).toNat = (tok' r).val)
    (w : Vec F S1x1x4096x512 .f32) (b : Vec F S1x1x1x512 .f32) (A : Vec F S4x512x256 .bf16) (K : PUnit → sProp 𝕄) :
    iprop(tab c q f3 ∗ owns (c : Thread nD τ) arg4 fullShare (d4 : S1x1x512.Idx → Elt F .i32) ∗ owns (c : Thread nD τ) arg5 fullShare (d5 : S1x1x512.Idx → Elt F .i32)
        ∗ owns (c : Thread nD τ) arg7 fullShare w ∗ owns (c : Thread nD τ) arg8 fullShare b
        ∗ (∃ B, owns (c : Thread nD τ) XbM fullShare B) ∗ owns (c : Thread nD τ) AcM fullShare A
        ∗ owes (c : Thread nD τ) 0 W ∗ (if k0_cond2 i = 1#1 then idle c x else fly c x tok)
        ∗ (tab c q f3 ∗ owns (c : Thread nD τ) arg4 fullShare (d4 : S1x1x512.Idx → Elt F .i32) ∗ owns (c : Thread nD τ) arg5 fullShare (d5 : S1x1x512.Idx → Elt F .i32)
          ∗ owns (c : Thread nD τ) arg7 fullShare w ∗ owns (c : Thread nD τ) arg8 fullShare b
          ∗ owns (c : Thread nD τ) XbM fullShare (k0_pay1 (gath tok x)) ∗ owns (c : Thread nD τ) AcM fullShare (slabP A 0 (actP (k0_pay1 (gath tok x)) w b))
          ∗ (∃ W, owes (c : Thread nD τ) 0 W) ∗ (if k0_cond3 i nv = 1#1 then fly c x tok' else idle c x) -∗ K ⟨⟩))
      ⊢ wp frame (wpE (defs₀ (F := F)) Variants.none c none) Set.univ (bodyOf i arg4 harg4 arg5 harg5 arg7 harg7 arg8 harg8 arg9 harg9 arg10 harg10 arg11 harg11) K := by
  unfold bodyOf
  simp only [cc0_moe_gmm_eq_skeleton]; unfold cc0_moe_gmm_skel
  unfold owns
  iintro ⟨HT, ⟨%f4, %hf4, H4⟩, ⟨%f5, %hf5, H5⟩, ⟨%f7, %hf7, H7⟩, ⟨%f8, %hf8, H8⟩, ⟨%B, %fX, -, HXb⟩, ⟨%fA, %hfA, HA⟩, HW, HS, Hk⟩
  sl_exec
  have hv : on_0.sl.r c i f3 = 1#32 := hon _
  obtain ⟨h1, h4, h5, h6, h7, h8⟩ := on_conds i hv
  have h9 := (cond9_iff i).2 hv
  replace h1 := h1.mpr hj
  replace h4 := h4.mpr hj
  replace h5 := (not_congr h5).mpr (by omega)
  replace h6 := (not_congr h6).mpr (by omega)
  replace h7 := (not_congr h7).mpr (by omega)
  replace h8 := (not_congr h8).mpr (by omega)
  by_cases h2 : k0_cond2 i = 1#1
  case' pos =>
    ihave HS' := (Entails.of_eq (if_pos h2)) $$ HS
    icases HS' with ⟨⟨%fg, HG⟩, HC, HX⟩
    imod (Transfers.batch_alloc' (Lvl := ℕ) (countersEmb (U := Pipeline.UD sig nD τ)) (c : Thread nD τ) () NN (rowD c x tok) (sm := .dma cc0_scratch3.sem) (E := Set.univ)) $$ HC with HB
    ihave HR := (rows_split c x tok fg) $$ [HX HG]
    · isplitl [HX]; · iexact HX
      iexact HG
    icases HR with ⟨HK, HR⟩
    sl_exec (disch := first | sl_exact h1 | sl_exact h2)
    sl_for (issueAt c x tok fg arg4 f4) $$ [HB HR H4]
    case region =>
      intro k acc
      exact t1_step c x tok fg arg4 f4 (fun r => (congrArg (fun d : S1x1x512.Idx → BitVec 32 => (d (ix3 r)).toNat) hf4).trans (ht4 h2 r)) i _ _ _ _ _ _ _ _ _ _ _ _ _ _ _ _ _ _ _ _ _ _ _ _ k acc
    case' _ =>
      unfold issueAt
      isplitl [HB]; · iexact HB
      isplitl [HR]; · rw [Ring.rangeSet_univ]; iexact HR
      iexact H4
    iintro %_ HI
    ihave HI' := (issue_end c x tok fg arg4 f4 _ _ t1_trips) $$ HI
    icases HI' with ⟨HB, H4⟩
    sl_exec
  case' neg =>
    ihave HS' := (Entails.of_eq (if_neg h2)) $$ HS
    icases HS' with ⟨HB, HK⟩
    sl_exec (disch := first | sl_exact h1 | sl_exact h2)
  all_goals
    sl_for (drainAt c x tok) $$ [HB HW]
    case region =>
      intro k acc
      exact t2_step c x tok i _ _ _ _ _ _ _ _ _ _ _ _ _ _ _ _ _ _ _ _ _ _ k acc
    case' _ =>
      unfold drainAt
      isplitl [HW]; · iexists W; iexact HW
      rw [if_pos (by decide : 0 < 512), Nat.zero_mul]
      iexact HB
    iintro %_ HI
    ihave HI' := (drain_end c x tok _ _ t2_trips) $$ [HI HK]
    · isplitl [HI]; · iexact HI
      iexact HK
    icases HI' with ⟨HW, HC, HX, HG⟩
    by_cases h3 : k0_cond3 i nv = 1#1
    case' pos =>
      sl_exec (disch := sl_exact cond3_of i (hnx _) h3)
      imod (Transfers.batch_alloc' (Lvl := ℕ) (countersEmb (U := Pipeline.UD sig nD τ)) (c : Thread nD τ) () NN (rowD c x tok') (sm := .dma cc0_scratch3.sem) (E := Set.univ)) $$ HC with HB
      ihave HR := (rows_split c x tok' (gath tok x)) $$ [HX HG]
      · isplitl [HX]; · iexact HX
        iexact HG
      icases HR with ⟨HK, HR⟩
      sl_for (issueAt c x tok' (gath tok x) arg5 f5) $$ [HB HR H5]
      case region =>
        intro k acc
        exact t3_step c x tok' (gath tok x) arg5 f5 (fun r => (congrArg (fun d : S1x1x512.Idx → BitVec 32 => (d (ix3 r)).toNat) hf5).trans (ht5 h3 r)) i _ _ _ _ _ _ _ _ _ _ _ _ _ _ _ _ _ _ _ _ _ _ _ _ _ k acc
      case' _ =>
        unfold issueAt
        isplitl [HB]; · iexact HB
        isplitl [HR]; · rw [Ring.rangeSet_univ]; iexact HR
        iexact H5
      iintro %_ HI
      ihave HI' := (issue_end c x tok' (gath tok x) arg5 f5 _ _ t3_trips) $$ HI
      icases HI' with ⟨HB, H5⟩
      ihave HE := (Entails.of_eq (if_pos (t := fly c x tok') (e := idle c x) h3).symm) $$ [HB HK]
      · isplitl [HB]; · iexact HB
        iexact HK
    case' neg =>
      sl_exec (disch := sl_exact cond3_not i (hnx _) h3)
      ihave HE := (Entails.of_eq (if_neg (t := fly c x tok') (e := idle c x) h3).symm) $$ [HC HX HG]
      · isplitl [HG]; · iexists _; iexact HG
        isplitl [HC]; · iexact HC
        iexact HX
    all_goals
      sl_exec (disch := first | sl_exact h1 | sl_exact h4 | sl_exact h5 | sl_exact h6 | sl_exact h7 | sl_exact h8 | sl_exact h9)
      sl_step
      iapply Hk
      isplitl [HT]; · iexact HT
      isplitl [H4]; · iexists _; isplitr; · ipureintro; exact hf4
                      iexact H4
      isplitl [H5]; · iexists _; isplitr; · ipureintro; exact hf5
                      iexact H5
      isplitl [H7]; · iexists _; isplitr; · ipureintro; exact hf7
                      iexact H7
      isplitl [H8]; · iexists _; isplitr; · ipureintro; exact hf8
                      iexact H8
      subst hf7 hf8 hfA
      isplitl [HXb]
      · iexists _; isplitr
        swap; · iexact HXb
        ipureintro
        sl_open_run
        refine (View.read_writes_full _ _ _ _ _).trans ?_
        exact congrArg k0_pay1 (View.readAt_full _ _ _)
      isplitl [HA]
      · iexists _; isplitr
        swap; · iexact HA
        ipureintro
        refine (View.read_writes_cons_put _ _ _ _ _ rfl).trans ?_
        rw [View.writes_nil]
        refine congrArg (VecWindow.put _ _ _) ?_
        sl_open_run
        simp only [View.readAt_full (s := S512x4096), View.readAt_full (s := S1x1x4096x512), View.readAt_full (s := S1x1x1x512), View.readCov_full (s := S512x4096)]
        rfl
      isplitl [HW]; · iexact HW
      iexact HE

end

end Cert.Kernel8Ideal.Gmm

end
-- ==== Proof.GmmTab.lean ====
/- What the grouped product's region finds: the tables, the grid's coordinates, the windows' blocks. -/
module

public import proofs.«01_k».proof.Proof.GmmBody
public import Idealize.ShloMosaic.Lib.StableHlo.RunRead
public import Idealize.ShloMosaic.Lib.WordCmp

@[expose] public section

set_option maxRecDepth 16384

noncomputable section

namespace Cert.Kernel8Ideal.Gmm

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers as the region finds them -/

abbrev V (c : Dev nD) (b : Ref sig .tc) : Buf (Elt F) ((c : Thread nD τ).loc b) := StableHlo.after hostOps0 (fun b => m (c, b)) (Proc.devRef .tc b)

theorem hostOps0_fresh : (hostOps0 : List (HloOp τ sig (Elt F))).Forall fun op => op.fresh = ∅ := by
  simp only [List.Forall]; repeat' constructor

theorem V_kept (c : Dev nD) (b : Ref sig .tc) (hb : b ∉ [main_v0, main_c, main_v1, main_v2, main_v3, main_v4, main_v5, main_v6, main_v7, main_v8, main_v9]) :
    V m c b = m ((c : Thread nD τ).loc b) :=
  StableHlo.after_unwritten [main_v0, main_c, main_v1, main_v2, main_v3, main_v4, main_v5, main_v6, main_v7, main_v8, main_v9] rfl hb _

abbrev jx1 (t : Fin 128) : S128.Idx := fun a => match a with | ⟨0, _⟩ => t

def iz1 : S1.Idx := fun a => match a with | ⟨0, _⟩ => (0 : Fin 1)

theorem word_of {a b : BitVec 32} (N : BitVec 32) (h : a = b) : BitVec.setWidth 32 (BitVec.ofBool (a.slt N)) = if b.slt N then 1#32 else 0#32 := by
  subst h; cases a.slt N <;> rfl

/-- The word of the used tiles' table at tile `t`: one where the tile starts before the last row. -/
theorem V_v6 (c : Dev nD) (t : Fin 128) : (V m c main_v6 : S128.Idx → BitVec 32) (jx1 t)
    = if (512#32 * BitVec.ofNat 32 t.val).slt ((m ((c : Thread nD τ).loc main_arg3) : S1.Idx → BitVec 32) iz1) then 1#32 else 0#32 := by
  have e : (V m c main_v6 : S128.Idx → BitVec 32) = extui 32 (cmpi .slt (muli (iotaInDim S128 32 0) (broadcastInDim S128 ![] Facts₀.bcast_S_S128 (constantI S_ 32 512#32)))
      (broadcastInDim S128 ![] Facts₀.bcast_S_S128 (shapeCast S_ (m ((c : Thread nD τ).loc main_arg3) : S1.Idx → BitVec 32) Facts₀.shapeCasts_S1_S_))) (by decide) := by
    show StableHlo.after hostOps0 _ _ = _
    after_results
    rfl
  rw [e]
  simp only [extui, cmpi, muli, iotaInDim, broadcastInDim, constantI, shapeCast]
  have hz (z z' : S1.Idx) : z = z' := funext fun a => match a with
    | ⟨0, _⟩ => Fin.ext (by
      have h1 : (z 0).val < 1 := (z 0).isLt
      have h2 : (z' 0).val < 1 := (z' 0).isLt
      show (z 0).val = (z' 0).val
      omega)
  rw [hz ((Shape.reshapeEquiv _) _) iz1]
  show BitVec.setWidth 32 (BitVec.ofBool ((BitVec.ofNat 32 t.val * 512#32).slt (m ((c : Thread nD τ).loc main_arg3) iz1))) = _
  exact word_of (a := BitVec.ofNat 32 t.val * 512#32) (b := 512#32 * BitVec.ofNat 32 t.val) (m ((c : Thread nD τ).loc main_arg3) iz1) (BitVec.mul_comm _ _)

/-! ## The grid -/

theorem coords0 : ∀ t : Fin grid0.N, (grid0.coords t 0).val = t.val / 8 ∧ (grid0.coords t 1).val = t.val % 8 := by decide +kernel
theorem off1_at : ∀ t : Fin grid0.N, k0_off1 (grid0.coords t) 0 = t.val / 8 := by decide +kernel
theorem off6_at : ∀ t : Fin grid0.N, k0_off6 (grid0.coords t) 0 = min (t.val / 8 + 1) 127 := by decide +kernel
theorem cond2_at : ∀ t : Fin grid0.N, k0_cond2 (grid0.coords t) = 1#1 ↔ t.val / 8 = 0 := by decide +kernel
theorem cond3_at : ∀ t : Fin grid0.N, (k0_cond3 (grid0.coords t) 0#32 ≠ 1#1) ∧ (k0_cond3 (grid0.coords t) 1#32 = 1#1 ↔ t.val / 8 + 1 < 128) := by decide +kernel
theorem index0 : ∀ t : Fin grid0.N, cc0_transform_0 (grid0.coords t) 0 = t.val / 8 ∧ cc0_transform_0 (grid0.coords t) 1 = 0 ∧ cc0_transform_0 (grid0.coords t) 2 = 0 := by decide +kernel
theorem index1 : ∀ t : Fin grid0.N, cc0_transform_1 (grid0.coords t) 0 = min (t.val / 8 + 1) 127 ∧ cc0_transform_1 (grid0.coords t) 1 = 0 ∧ cc0_transform_1 (grid0.coords t) 2 = 0 := by decide +kernel
theorem index6 : ∀ t : Fin grid0.N, cc0_transform_7 (grid0.coords t) 0 = t.val / 8 ∧ cc0_transform_7 (grid0.coords t) 1 = t.val % 8 - 4 := by decide +kernel
theorem blk3 : ∀ j : Fin 8, (Scalar.minsi (BitVec.ofNat 32 j.val) 3#32).toNat = min j.val 3 := by decide
theorem blk4 : ∀ j : Fin 8, (Scalar.maxsi (Scalar.subi (BitVec.ofNat 32 j.val) 4#32) 0#32).toNat = j.val - 4 := by decide

theorem off1_i (i : grid0.Coords) : k0_off1 i 0 = (i 0).val := by
  unfold k0_off1
  generalize (i 0) = j
  revert j; decide +kernel

/-- The expert of the tile of a grid point, as the table holds it. -/
abbrev expAt (pf : pre0.Contents (Elt F)) (i : grid0.Coords) : BitVec 32 := (pf 0 : S128.Idx → BitVec 32) (jx1 (i 0))

theorem atD_tile (pf : pre0.Contents (Elt F)) (i : grid0.Coords) : (pf.at 0 (Rect.unit (s := S128) (k0_off1 i) S1.size (Facts₀.k0_off1_inb i)) Facts₀.numel1_S1 : BitVec 32) = expAt pf i := by
  refine congrArg (pf 0) (funext fun a => ?_)
  match a with
  | ⟨0, _⟩ => exact Fin.ext ((congrArg (· + 1 * 0) (off1_i i)).trans (show (i 0).val + 1 * 0 = (i 0).val by omega))

theorem index2 (pf : pre0.Contents (Elt F)) (i : grid0.Coords) : cc0_transform_3 Facts₀.k0_off1_inb Facts₀.numel1_S1 pf i = ![0, (expAt pf i).toNat, 0, min (i 1).val 3] := by
  rw [← blk3 (i 1), ← atD_tile pf i]; rfl
theorem index3 (pf : pre0.Contents (Elt F)) (i : grid0.Coords) : cc0_transform_4 Facts₀.k0_off1_inb Facts₀.numel1_S1 pf i = ![0, (expAt pf i).toNat, 0, min (i 1).val 3] := by
  rw [← blk3 (i 1), ← atD_tile pf i]; rfl
theorem index4 (pf : pre0.Contents (Elt F)) (i : grid0.Coords) : cc0_transform_5 Facts₀.k0_off1_inb Facts₀.numel1_S1 pf i = ![0, (expAt pf i).toNat, 0, (i 1).val - 4] := by
  rw [← blk4 (i 1), ← atD_tile pf i]; rfl
theorem index5 (pf : pre0.Contents (Elt F)) (i : grid0.Coords) : cc0_transform_6 Facts₀.k0_off1_inb Facts₀.numel1_S1 pf i = ![0, (expAt pf i).toNat, 0, (i 1).val - 4] := by
  rw [← blk4 (i 1), ← atD_tile pf i]; rfl

/-- With every expert of the table one of the 32, the blocks lie in their arrays. -/
theorem ok_of (pf : pre0.Contents (Elt F)) (h : ∀ t : Fin 128, ((pf 0 : S128.Idx → BitVec 32) (jx1 t)).toNat < 32) : ok0 pf := by
  have hb (i : grid0.Coords) : (i 1).val < 8 := (i 1).isLt
  refine ⟨fun i => ⟨?_, .inl rfl⟩, fun i => ⟨?_, .inl rfl⟩, fun i => ⟨?_, .inl rfl⟩, fun i => ⟨?_, .inl rfl⟩⟩
  · rw [index2]; have h1 : (expAt pf i).toNat < 32 := h (i 0); have h2 := hb i
    intro a
    match a with
    | ⟨0, _⟩ => show (0 + 1) * 1 ≤ 1; omega
    | ⟨1, _⟩ => show ((expAt pf i).toNat + 1) * 1 ≤ 32; omega
    | ⟨2, _⟩ => show (0 + 1) * 4096 ≤ 4096; omega
    | ⟨3, _⟩ => show (min (i 1).val 3 + 1) * 512 ≤ 2048; omega
  · rw [index3]; have h1 : (expAt pf i).toNat < 32 := h (i 0); have h2 := hb i
    intro a
    match a with
    | ⟨0, _⟩ => show (0 + 1) * 1 ≤ 1; omega
    | ⟨1, _⟩ => show ((expAt pf i).toNat + 1) * 1 ≤ 32; omega
    | ⟨2, _⟩ => show (0 + 1) * 1 ≤ 1; omega
    | ⟨3, _⟩ => show (min (i 1).val 3 + 1) * 512 ≤ 2048; omega
  · rw [index4]; have h1 : (expAt pf i).toNat < 32 := h (i 0); have h2 := hb i
    intro a
    match a with
    | ⟨0, _⟩ => show (0 + 1) * 1 ≤ 1; omega
    | ⟨1, _⟩ => show ((expAt pf i).toNat + 1) * 1 ≤ 32; omega
    | ⟨2, _⟩ => show (0 + 1) * 1024 ≤ 1024; omega
    | ⟨3, _⟩ => show ((i 1).val - 4 + 1) * 1024 ≤ 4096; omega
  · rw [index5]; have h1 : (expAt pf i).toNat < 32 := h (i 0); have h2 := hb i
    intro a
    match a with
    | ⟨0, _⟩ => show (0 + 1) * 1 ≤ 1; omega
    | ⟨1, _⟩ => show ((expAt pf i).toNat + 1) * 1 ≤ 32; omega
    | ⟨2, _⟩ => show (0 + 1) * 1 ≤ 1; omega
    | ⟨3, _⟩ => show ((i 1).val - 4 + 1) * 1024 ≤ 4096; omega

/-! ## What the body reads of the used tiles' table -/

theorem onAt_eq (c : Dev nD) (t : Fin grid0.N) (f3 : Buf (Elt F) (OnM.view.loc (c : Thread nD τ))) (T : Fin 128) (hT : T.val = t.val / 8) (z) :
    onAt c (grid0.coords t) f3 z = (f3 : S128.Idx → BitVec 32) (jx1 T) := by
  unfold onAt
  rw [View.readAt_apply]
  refine congrArg f3 (funext fun a => ?_)
  have h0 : (z 0).val < 1 := (z 0).isLt
  match a with
  | ⟨0, _⟩ => exact Fin.ext ((congrArg (· + 1 * (z 0).val) (off1_at t)).trans (by show t.val / 8 + 1 * (z 0).val = T.val; omega))
theorem nxAt_eq (c : Dev nD) (t : Fin grid0.N) (f3 : Buf (Elt F) (OnM.view.loc (c : Thread nD τ))) (T : Fin 128) (hT : T.val = min (t.val / 8 + 1) 127) (z) :
    nxAt c (grid0.coords t) f3 z = (f3 : S128.Idx → BitVec 32) (jx1 T) := by
  unfold nxAt
  rw [View.readAt_apply]
  refine congrArg f3 (funext fun a => ?_)
  have h0 : (z 0).val < 1 := (z 0).isLt
  match a with
  | ⟨0, _⟩ => exact Fin.ext ((congrArg (· + 1 * (z 0).val) (off6_at t)).trans (by show min (t.val / 8 + 1) 127 + 1 * (z 0).val = T.val; omega))

/-! ## The pipeline at the tables, and its blocks -/

/-- The tables as the region finds them. -/
abbrev tbl : pre0.Contents (Elt F) := fun k => V m 0 (pre0.ref k)

variable (hok : ok0 (tbl m))

abbrev adm : (pcfg0 (F := F)).Adm := ⟨tbl m, hok⟩
abbrev cfgA : Cfg sig Λ₀ := Pipeline.pin pcfgs (fun _ => adm m hok) 0

/-- Window `w`'s block at point `t`, read off its array as the region finds it. -/
def iblk (c : Dev nD) (w : Fin (cfgA m hok).W) (t : Fin (cfgA m hok).N) : (((cfgA m hok).win w).xblock ((cfgA m hok).grid.coords t)).Idx → Elt F ((cfgA m hok).win w).elt :=
  (((cfgA m hok).win w).blk t).view.read (Elt F) (V m c (Pipeline.arrRef spec0 w))

theorem idle6 (t : Fin grid0.N) (h : (tbl m 1 : S128.Idx → BitVec 32) (jx1 (grid0.coords t 0)) = 0#32 ∨ (tbl m 1 : S128.Idx → BitVec 32) (jx1 (grid0.coords t 0)) = 1#32) :
    (cfgA m hok).idle 6 (grid0.coords t) = decide (t.val % 8 < 4) := by
  have e : ((tbl m).atD 1 (k0_off1 (grid0.coords t)) : BitVec 32) = (tbl m 1 : S128.Idx → BitVec 32) (jx1 (grid0.coords t 0)) := by
    unfold Pipeline.Prefetch.Contents.atD
    refine (dif_pos (show ∀ a, k0_off1 (grid0.coords t) a + 1 ≤ S128.size a from fun a => match a with | ⟨0, _⟩ => Facts₀.k0_off1_inb (grid0.coords t) 0)).trans ?_
    refine congrArg (tbl m 1) (funext fun a => ?_)
    match a with
    | ⟨0, _⟩ => exact Fin.ext (off1_i _)
  show (!(k0_cond8 (grid0.coords t) ((tbl m).atD 1 (k0_off1 (grid0.coords t))) == 1#1) && !(k0_cond9 (grid0.coords t) ((tbl m).atD 1 (k0_off1 (grid0.coords t))) == 1#1)) = _
  rw [e]
  have hc := (coords0 t).2
  rcases h with h | h
  · have h8 := (off_conds (grid0.coords t) h).2.2.2.2.2
    have h9 := (cond9_iff (grid0.coords t)).1 h
    rw [hc] at h9
    rw [beq_eq_false_iff_ne.mpr h8]
    by_cases hj : t.val % 8 < 4
    · rw [beq_eq_false_iff_ne.mpr (fun h => by have := h9.mp h; omega)]; simp [hj]
    · rw [beq_iff_eq.mpr (h9.mpr (by omega))]; simp [hj]
  · have h8 := (on_conds (grid0.coords t) h).2.2.2.2.2
    have h9 := (cond9_iff (grid0.coords t)).2 h
    rw [hc] at h8
    rw [beq_eq_false_iff_ne.mpr h9]
    by_cases hj : t.val % 8 < 4
    · rw [beq_eq_false_iff_ne.mpr (fun h => by have := h8.mp h; omega)]; simp [hj]
    · rw [beq_iff_eq.mpr (h8.mpr (by omega))]; simp [hj]

theorem flush_at : ∀ t : Fin grid0.N, (decide (t.val + 1 = grid0.N) || decide (∃ h : t.val + 1 < grid0.N, cc0_transform_7 (grid0.coords ⟨t.val + 1, h⟩) ≠ cc0_transform_7 (grid0.coords t))) = decide (4 ≤ t.val % 8) := by
  decide +kernel

theorem flush6 (t : Fin grid0.N) : ((cfgA m hok).win 6).flush t = decide (4 ≤ t.val % 8) :=
  (show _ = _ from rfl).trans (flush_at t)

end Cert.Kernel8Ideal.Gmm

end
-- ==== Proof.GmmFrame.lean ====
/- The grouped product's run: what its buffers hold from point to point, the body at every point, and the launch. -/
module

public import proofs.«01_k».proof.Proof.GmmTab
public import Idealize.ShloMosaic.Lib.ValueIdx
public import Idealize.ShloMosaic.Lib.Claim

@[expose] public section

set_option maxRecDepth 16384

noncomputable section

namespace Cert.Kernel8Ideal.Gmm

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The tables' words and the tokens -/

def ix64 (k : ℕ) : S65536.Idx := fun a => match a with | ⟨0, _⟩ => ⟨k % 65536, Nat.mod_lt _ (by decide)⟩

/-- The number of the token that row `r` of tile `s` gathers. -/
def tokA (c : Dev nD) (s : ℕ) (r : Fin 512) : Fin 12288 :=
  ⟨((m ((c : Thread nD τ).loc main_arg1) : S65536.Idx → BitVec 32) (ix64 (512 * s + r.val))).toNat % 12288, Nat.mod_lt _ (by decide)⟩

/-- Tile `s` is in use. -/
def onB (c : Dev nD) (s : ℕ) : Prop := ∃ h : s < 128, (V m c main_v6 : S128.Idx → BitVec 32) (jx1 ⟨s, h⟩) = 1#32
instance (c : Dev nD) (s : ℕ) : Decidable (onB m c s) := Classical.dec _

theorem on01 (c : Dev nD) (t : Fin 128) : (V m c main_v6 : S128.Idx → BitVec 32) (jx1 t) = 0#32 ∨ (V m c main_v6 : S128.Idx → BitVec 32) (jx1 t) = 1#32 := by
  rw [V_v6]; split
  · exact Or.inr rfl
  · exact Or.inl rfl

theorem start_toInt : ∀ t : Fin 128, (512#32 * BitVec.ofNat 32 t.val).toInt = 512 * (t.val : Int) := by decide +kernel

/-- The tiles in use come first. -/
theorem on_mono (c : Dev nD) (s : ℕ) (h : onB m c (s + 1)) : onB m c s := by
  obtain ⟨h1, h2⟩ := h
  refine ⟨by omega, ?_⟩
  rw [V_v6] at h2 ⊢
  split at h2
  case isFalse => exact absurd h2 (show ¬ (0#32 : BitVec 32) = 1#32 by decide)
  case isTrue h3 =>
    rw [if_pos]
    rw [BitVec.slt_iff_toInt_lt, start_toInt] at h3 ⊢
    refine lt_trans ?_ h3
    show (512 : Int) * (s : Int) < 512 * ((s + 1 : ℕ) : Int)
    omega

theorem tok_cast (x : S65536.Idx → BitVec 32) (T : Fin 128) (r : Fin 512) (i : S128x1x512.Idx) (h0 : (i 0).val = T.val) (h2 : (i 2).val = r.val) :
    shapeCast S128x1x512 x Facts₀.shapeCasts_S65536_S128x1x512 i = x (ix64 (512 * T.val + r.val)) := by
  refine shapeCast_apply x _ i (ix64 (512 * T.val + r.val)) ?_
  have h1 : (i 1).val < 1 := (i 1).isLt
  have hT := T.isLt
  have hr := r.isLt
  rw [Shape.rowMajor_val_three, Shape.rowMajor_val_one]
  show (512 * T.val + r.val) % 65536 = ((i 0).val * 1 + (i 1).val) * 512 + (i 2).val
  omega

theorem V_v7 (c : Dev nD) (T : Fin 128) (r : Fin 512) (i : S128x1x512.Idx) (h0 : (i 0).val = T.val) (h2 : (i 2).val = r.val) :
    (V m c main_v7 : S128x1x512.Idx → BitVec 32) i = (m ((c : Thread nD τ).loc main_arg1) : S65536.Idx → BitVec 32) (ix64 (512 * T.val + r.val)) := by
  have e : (V m c main_v7 : S128x1x512.Idx → BitVec 32) = shapeCast S128x1x512 (m ((c : Thread nD τ).loc main_arg1) : S65536.Idx → BitVec 32) Facts₀.shapeCasts_S65536_S128x1x512 := by
    show StableHlo.after hostOps0 _ _ = _
    after_results
    rfl
  rw [e]
  exact tok_cast _ T r i h0 h2

variable (hok : ok0 (tbl m))

theorem blk0_tok (htok : ∀ (c : Dev nD) k, ((m ((c : Thread nD τ).loc main_arg1) : S65536.Idx → BitVec 32) k).toNat < 12288) (c : Dev nD) (t : Fin grid0.N) (r : Fin 512) :
    ((iblk m hok c 0 t : S1x1x512.Idx → BitVec 32) (ix3 r)).toNat = (tokA m c (t.val / 8) r).val := by
  have ht : t.val < 1024 := lt_of_lt_of_eq t.isLt N_0
  have e : (iblk m hok c 0 t : S1x1x512.Idx → BitVec 32) (ix3 r) = (m ((c : Thread nD τ).loc main_arg1) : S65536.Idx → BitVec 32) (ix64 (512 * (t.val / 8) + r.val)) := by
    unfold iblk
    refine (View.read_apply _ _).trans ?_
    exact V_v7 m c ⟨t.val / 8, by omega⟩ r _ (by
      show cc0_transform_0 (grid0.coords t) 0 * 1 + 1 * 0 = t.val / 8
      rw [(index0 t).1]; omega) (by
      show cc0_transform_0 (grid0.coords t) 2 * 512 + 1 * r.val = r.val
      rw [(index0 t).2.2]; omega)
  rw [e]
  exact (Nat.mod_eq_of_lt (htok c _)).symm

theorem blk1_tok (htok : ∀ (c : Dev nD) k, ((m ((c : Thread nD τ).loc main_arg1) : S65536.Idx → BitVec 32) k).toNat < 12288) (c : Dev nD) (t : Fin grid0.N) (hs : t.val / 8 + 1 < 128) (r : Fin 512) :
    ((iblk m hok c 1 t : S1x1x512.Idx → BitVec 32) (ix3 r)).toNat = (tokA m c (t.val / 8 + 1) r).val := by
  have e : (iblk m hok c 1 t : S1x1x512.Idx → BitVec 32) (ix3 r) = (m ((c : Thread nD τ).loc main_arg1) : S65536.Idx → BitVec 32) (ix64 (512 * (t.val / 8 + 1) + r.val)) := by
    unfold iblk
    refine (View.read_apply _ _).trans ?_
    exact V_v7 m c ⟨t.val / 8 + 1, hs⟩ r _ (by
      show cc0_transform_1 (grid0.coords t) 0 * 1 + 1 * 0 = t.val / 8 + 1
      rw [(index1 t).1]; omega) (by
      show cc0_transform_1 (grid0.coords t) 2 * 512 + 1 * r.val = r.val
      rw [(index1 t).2.2]; omega)
  rw [e]
  exact (Nat.mod_eq_of_lt (htok c _)).symm

/-! ## What the buffers hold from point to point -/

/-- The rows of tile `s`, gathered and rounded. -/
def rowsAt (c : Dev nD) (s : ℕ) : Vec F S512x4096 .bf16 := k0_pay1 (gath (tokA m c s) (V m c main_arg0 : XBuf F))

/-- The activations computed at point `t`. -/
def actAt (c : Dev nD) (t : Fin grid0.N) : FVec F S1x512x256 .bf16 := actP (rowsAt m c (t.val / 8)) (iblk m hok c 2 t) (iblk m hok c 3 t)

/-- Point `8 s + j` of the grid, of `s` the tile of point `t`. -/
abbrev ptOf (t : Fin grid0.N) (j : Fin 4) : Fin grid0.N := ⟨8 * (t.val / 8) + j.val, by
  have h := t.isLt
  have hj := j.isLt
  have e : grid0.N = 1024 := N_0
  omega⟩

/-- The output block left at point `t`. -/
def outAt (c : Dev nD) (t : Fin grid0.N) : FVec F S512x1024 .f32 :=
  if onB m c (t.val / 8) then
    k0_pay6 (k0_pay72 (iblk m hok c 5 t) (wrow (iblk m hok c 4 t) 0) (actAt m hok c (ptOf t 0)) (wrow (iblk m hok c 4 t) 1) (actAt m hok c (ptOf t 1)) (wrow (iblk m hok c 4 t) 2) (actAt m hok c (ptOf t 2)))
      (k0_pay73 (wrow (iblk m hok c 4 t) 3)) (actAt m hok c (ptOf t 3))
  else k0_pay7

/-- The copies of tile `s` are under way before point `n`. -/
def flyB (c : Dev nD) (n : ℕ) : Prop := 0 < n ∧ onB m c ((n + 7) / 8)
instance (c : Dev nD) (n : ℕ) : Decidable (flyB m c n) := Classical.dec _

abbrev copies (c : Dev nD) (n : ℕ) : sProp 𝕄 := if flyB m c n then fly c (V m c main_arg0 : XBuf F) (tokA m c ((n + 7) / 8)) else idle c (V m c main_arg0 : XBuf F)
abbrev rowsI (c : Dev nD) (n : ℕ) : sProp 𝕄 := iprop(∃ b : Vec F S512x4096 .bf16, owns (c : Thread nD τ) XbM fullShare b ∗ ⌜onB m c (n / 8) → 0 < n % 8 → b = rowsAt m c (n / 8)⌝)
abbrev actsI (c : Dev nD) (n : ℕ) : sProp 𝕄 := iprop(∃ A : Vec F S4x512x256 .bf16, owns (c : Thread nD τ) AcM fullShare A ∗ ⌜onB m c (n / 8) → ∀ (u : Fin grid0.N) (j : Fin 4), u.val = 8 * (n / 8) + j.val → j.val < n % 8 → slabW A j = actAt m hok c u⌝)
abbrev tabs (c : Dev nD) : sProp 𝕄 := iprop((((c : Thread nD τ).loc main_arg2) ↦{fullShare.right} V m c main_arg2) ∗ tab c fullShare.right (V m c main_v6))

/-- The body's invariant before point `n`. -/
def inv (c : Dev nD) (n : ℕ) : sProp 𝕄 :=
  iprop(tabs m c ∗ (∃ r, prngReg c r) ∗ copies m c n ∗ rowsI m c n ∗ actsI m hok c n)

/-- The proof data of the one pipeline on core `c`. -/
def dats (p : Fin 1) (c : Dev nD) : Dat τ (Elt F) Unit ℕ (Pipeline.UD sig nD τ) ℕ (Pipeline.pin pcfgs (fun _ => adm m hok) p) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => iblk m hok c 5 t
    | ⟨6, _⟩ => outAt m hok c t
  Φ n := inv m hok c n.val
  q w := Pipeline.shareOf spec0 w
  owed _ := 0

theorem A_eq (c : Dev nD) (w : Fin (cfgA m hok).W) : (dats m hok 0 c).A w = V m c (Pipeline.arrRef spec0 w) := by
  dsimp only [dats]
theorem after0_0 (c : Dev nD) (t : Fin (cfgA m hok).N) : (dats m hok 0 c).after 0 t = iblk m hok c 0 t := by dsimp only [dats]; rfl
theorem after0_1 (c : Dev nD) (t : Fin (cfgA m hok).N) : (dats m hok 0 c).after 1 t = iblk m hok c 1 t := by dsimp only [dats]; rfl
theorem after0_2 (c : Dev nD) (t : Fin (cfgA m hok).N) : (dats m hok 0 c).after 2 t = iblk m hok c 2 t := by dsimp only [dats]; rfl
theorem after0_3 (c : Dev nD) (t : Fin (cfgA m hok).N) : (dats m hok 0 c).after 3 t = iblk m hok c 3 t := by dsimp only [dats]; rfl
theorem after0_4 (c : Dev nD) (t : Fin (cfgA m hok).N) : (dats m hok 0 c).after 4 t = iblk m hok c 4 t := by dsimp only [dats]; rfl
theorem after0_5 (c : Dev nD) (t : Fin (cfgA m hok).N) : (dats m hok 0 c).after 5 t = iblk m hok c 5 t := by dsimp only [dats]; rfl
theorem after0_6 (c : Dev nD) (t : Fin (cfgA m hok).N) : (dats m hok 0 c).after 6 t = outAt m hok c t := by dsimp only [dats]; rfl
theorem before0_0 (c : Dev nD) (t : Fin (cfgA m hok).N) (d) : (dats m hok 0 c).before 0 t d = iblk m hok c 0 t :=
  ((dats m hok 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgA m hok).N) (d) : (dats m hok 0 c).before 1 t d = iblk m hok c 1 t :=
  ((dats m hok 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgA m hok).N) (d) : (dats m hok 0 c).before 2 t d = iblk m hok c 2 t :=
  ((dats m hok 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgA m hok).N) (d) : (dats m hok 0 c).before 3 t d = iblk m hok c 3 t :=
  ((dats m hok 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgA m hok).N) (d) : (dats m hok 0 c).before 4 t d = iblk m hok c 4 t :=
  ((dats m hok 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgA m hok).N) (d) : (dats m hok 0 c).before 5 t d = iblk m hok c 5 t :=
  ((dats m hok 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-! ## The body at a point -/

abbrev ms0 (t : Fin (cfgA m hok).N) : Memref sig .tc .smem S1x1x512 .i32 := spec0_0.stage ((cfgA m hok).slots t 0)
abbrev hs0 (t : Fin (cfgA m hok).N) : (ms0 m hok t).IsWhole := hstage0_0 (((cfgA m hok).slots t 0).cast nbuf0_0)
abbrev ms1 (t : Fin (cfgA m hok).N) : Memref sig .tc .smem S1x1x512 .i32 := spec0_1.stage ((cfgA m hok).slots t 1)
abbrev hs1 (t : Fin (cfgA m hok).N) : (ms1 m hok t).IsWhole := hstage0_1 (((cfgA m hok).slots t 1).cast nbuf0_1)
abbrev ms2 (t : Fin (cfgA m hok).N) : Memref sig .tc .vmem S1x1x4096x512 .f32 := spec0_2.stage ((cfgA m hok).slots t 2)
abbrev hs2 (t : Fin (cfgA m hok).N) : (ms2 m hok t).IsWhole := hstage0_2 (((cfgA m hok).slots t 2).cast nbuf0_2)
abbrev ms3 (t : Fin (cfgA m hok).N) : Memref sig .tc .vmem S1x1x1x512 .f32 := spec0_3.stage ((cfgA m hok).slots t 3)
abbrev hs3 (t : Fin (cfgA m hok).N) : (ms3 m hok t).IsWhole := hstage0_3 (((cfgA m hok).slots t 3).cast nbuf0_3)
abbrev ms4 (t : Fin (cfgA m hok).N) : Memref sig .tc .vmem S1x1x1024x1024 .f32 := spec0_4.stage ((cfgA m hok).slots t 4)
abbrev hs4 (t : Fin (cfgA m hok).N) : (ms4 m hok t).IsWhole := hstage0_4 (((cfgA m hok).slots t 4).cast nbuf0_4)
abbrev ms5 (t : Fin (cfgA m hok).N) : Memref sig .tc .vmem S1x1x1x1024 .f32 := spec0_5.stage ((cfgA m hok).slots t 5)
abbrev hs5 (t : Fin (cfgA m hok).N) : (ms5 m hok t).IsWhole := hstage0_5 (((cfgA m hok).slots t 5).cast nbuf0_5)
abbrev ms6 (t : Fin (cfgA m hok).N) : Memref sig .tc .vmem S512x1024 .f32 := spec0_6.stage ((cfgA m hok).slots t 6)
abbrev hs6 (t : Fin (cfgA m hok).N) : (ms6 m hok t).IsWhole := hstage0_6 (((cfgA m hok).slots t 6).cast nbuf0_6)

abbrev bodyAt (t : Fin (cfgA m hok).N) : Prog (TpuEff nD τ sig (Elt F) Λ₀ .tc) PUnit :=
  bodyOf (grid0.coords t) (ms0 m hok t) (hs0 m hok t) (ms1 m hok t) (hs1 m hok t) (ms2 m hok t) (hs2 m hok t) (ms3 m hok t) (hs3 m hok t) (ms4 m hok t) (hs4 m hok t) (ms5 m hok t) (hs5 m hok t) (ms6 m hok t) (hs6 m hok t)

theorem defs₀_row (t : Fin (cfgA m hok).N) : defs₀ (F := F) .tc (cfgA m hok).body ((cfgA m hok).bodyArgs t ((cfgA m hok).slots t)) = bodyAt m hok t := by
  unfold defs₀; rw [Defs.onTc_tc]

abbrev ins (c : Dev nD) (t : Fin (cfgA m hok).N) : sProp 𝕄 :=
  iprop(owns (c : Thread nD τ) (ms0 m hok t) fullShare (iblk m hok c 0 t) ∗ owns (c : Thread nD τ) (ms1 m hok t) fullShare (iblk m hok c 1 t) ∗ owns (c : Thread nD τ) (ms2 m hok t) fullShare (iblk m hok c 2 t) ∗ owns (c : Thread nD τ) (ms3 m hok t) fullShare (iblk m hok c 3 t) ∗ owns (c : Thread nD τ) (ms4 m hok t) fullShare (iblk m hok c 4 t) ∗ owns (c : Thread nD τ) (ms5 m hok t) fullShare (iblk m hok c 5 t))
abbrev pre6 (c : Dev nD) (t : Fin (cfgA m hok).N) : sProp 𝕄 := iprop(∃ d, owns (c : Thread nD τ) (ms6 m hok t) fullShare ((dats m hok 0 c).before 6 t d))
def post6 (c : Dev nD) (t : Fin (cfgA m hok).N) : sProp 𝕄 := if t.val % 8 < 4 then pre6 m hok c t else owns (c : Thread nD τ) (ms6 m hok t) fullShare (outAt m hok c t)

def pre (c : Dev nD) (t : Fin (cfgA m hok).N) : sProp 𝕄 :=
  iprop(inv m hok c t.val ∗ (∃ W, owes (c : Thread nD τ) 0 W) ∗ ins m hok c t ∗ pre6 m hok c t)
def post (c : Dev nD) (t : Fin (cfgA m hok).N) : sProp 𝕄 :=
  iprop(inv m hok c (t.val + 1) ∗ (∃ W, owes (c : Thread nD τ) 0 W) ∗ ins m hok c t ∗ post6 m hok c t)

theorem t_lt (t : Fin grid0.N) : t.val < 1024 := lt_of_lt_of_eq t.isLt N_0
abbrev tileOf (t : Fin grid0.N) : Fin 128 := ⟨t.val / 8, by have := t_lt t; omega⟩

theorem off_word (c : Dev nD) (t : Fin grid0.N) (h : ¬ onB m c (t.val / 8)) (z) : onAt c (grid0.coords t) (V m c main_v6) z = 0#32 :=
  (onAt_eq c t _ (tileOf t) rfl z).trans ((on01 m c (tileOf t)).resolve_right fun e => h ⟨(tileOf t).isLt, e⟩)
theorem on_word (c : Dev nD) (t : Fin grid0.N) (h : onB m c (t.val / 8)) (z) : onAt c (grid0.coords t) (V m c main_v6) z = 1#32 :=
  (onAt_eq c t _ (tileOf t) rfl z).trans (by obtain ⟨_, h⟩ := h; exact h)

theorem post_lo (c : Dev nD) (t : Fin (cfgA m hok).N) (hj : t.val % 8 < 4) : pre6 m hok c t ⊢ post6 m hok c t := Entails.of_eq (if_pos hj).symm
theorem post_hi (c : Dev nD) (t : Fin (cfgA m hok).N) (hj : 4 ≤ t.val % 8) (X : FVec F S512x1024 .f32) (e : X = outAt m hok c t) :
    owns (c : Thread nD τ) (ms6 m hok t) fullShare X ⊢ post6 m hok c t := by
  subst e; exact Entails.of_eq (if_neg (by omega)).symm

theorem copies_off (c : Dev nD) (n : ℕ) (h : ¬ onB m c (n / 8)) : copies m c n ⊢ copies m c (n + 1) := by
  have h1 : ¬ flyB m c n := fun ⟨_, h1⟩ => by
    by_cases h8 : n % 8 = 0
    · rw [show (n + 7) / 8 = n / 8 by omega] at h1; exact h h1
    · rw [show (n + 7) / 8 = n / 8 + 1 by omega] at h1; exact h (on_mono m c _ h1)
  have h2 : ¬ flyB m c (n + 1) := fun ⟨_, h1⟩ => by
    rw [show (n + 1 + 7) / 8 = n / 8 + 1 by omega] at h1; exact h (on_mono m c _ h1)
  exact Entails.of_eq ((if_neg h1).trans (if_neg h2).symm)

theorem copies_same (c : Dev nD) (n : ℕ) (h : n % 8 ≠ 0) : copies m c n ⊢ copies m c (n + 1) := by
  have e : (n + 1 + 7) / 8 = (n + 7) / 8 := by omega
  have hi : flyB m c (n + 1) ↔ flyB m c n := by
    unfold flyB; rw [e]
    exact ⟨fun h => ⟨by omega, h.2⟩, fun h => ⟨by omega, h.2⟩⟩
  refine Entails.of_eq ?_
  unfold copies
  rw [e]
  by_cases h1 : flyB m c n
  · rw [if_pos h1, if_pos (hi.mpr h1)]
  · rw [if_neg h1, if_neg (fun h => h1 (hi.mp h))]

theorem copies_in (c : Dev nD) (t : Fin grid0.N) (hj : t.val % 8 = 0) (h : onB m c (t.val / 8)) :
    copies m c t.val ⊢ if k0_cond2 (grid0.coords t) = 1#1 then idle c (V m c main_arg0 : XBuf F) else fly c (V m c main_arg0 : XBuf F) (tokA m c (t.val / 8)) := by
  refine Entails.of_eq ?_
  unfold copies
  have e : (t.val + 7) / 8 = t.val / 8 := by omega
  by_cases h0 : t.val / 8 = 0
  · rw [if_pos ((cond2_at t).mpr h0), if_neg (fun hf => by have := hf.1; omega)]
  · rw [if_neg (fun h2 => h0 ((cond2_at t).mp h2)), if_pos (show flyB m c t.val from ⟨by omega, by rw [e]; exact h⟩), e]

/-- The word of the used tiles' table that the body reads for the following tile. -/
abbrev nextW (c : Dev nD) (t : Fin grid0.N) : BitVec 32 := (V m c main_v6 : S128.Idx → BitVec 32) (jx1 ⟨min (t.val / 8 + 1) 127, by omega⟩)

theorem cond3_on (c : Dev nD) (t : Fin grid0.N) : k0_cond3 (grid0.coords t) (nextW m c t) = 1#1 ↔ onB m c (t.val / 8 + 1) := by
  rcases on01 m c ⟨min (t.val / 8 + 1) 127, by omega⟩ with h | h
  · have e : nextW m c t = 0#32 := h
    rw [e]
    refine ⟨fun h3 => absurd h3 (cond3_at t).1, fun ⟨h1, h2⟩ => ?_⟩
    have e2 : (⟨min (t.val / 8 + 1) 127, by omega⟩ : Fin 128) = ⟨t.val / 8 + 1, h1⟩ := Fin.ext (by show min (t.val / 8 + 1) 127 = t.val / 8 + 1; omega)
    rw [e2] at h
    exact absurd (h.symm.trans h2) (show ¬ (0#32 : BitVec 32) = 1#32 by decide)
  · have e : nextW m c t = 1#32 := h
    rw [e, (cond3_at t).2]
    refine ⟨fun h1 => ⟨h1, ?_⟩, fun ⟨h1, _⟩ => h1⟩
    have e2 : (⟨min (t.val / 8 + 1) 127, by omega⟩ : Fin 128) = ⟨t.val / 8 + 1, h1⟩ := Fin.ext (by show min (t.val / 8 + 1) 127 = t.val / 8 + 1; omega)
    rw [e2] at h
    exact h

theorem copies_out (c : Dev nD) (t : Fin grid0.N) :
    (if k0_cond3 (grid0.coords t) (nextW m c t) = 1#1 then fly c (V m c main_arg0 : XBuf F) (tokA m c (t.val / 8 + 1)) else idle c (V m c main_arg0 : XBuf F)) ⊢ copies m c (t.val + 1) := by
  refine Entails.of_eq ?_
  unfold copies
  have e : (t.val + 1 + 7) / 8 = t.val / 8 + 1 := by omega
  by_cases h3 : k0_cond3 (grid0.coords t) (nextW m c t) = 1#1
  · rw [if_pos h3, if_pos (show flyB m c (t.val + 1) from ⟨by omega, by rw [e]; exact (cond3_on m c t).mp h3⟩), e]
  · rw [if_neg h3, if_neg (fun hf => h3 ((cond3_on m c t).mpr (by have := hf.2; rwa [e] at this)))]

theorem rows_off (c : Dev nD) (n : ℕ) (h : ¬ onB m c (n / 8)) : rowsI m c n ⊢ rowsI m c (n + 1) := by
  unfold rowsI
  iintro ⟨%b, HB, -⟩
  iexists b; isplitl [HB]; · iexact HB
  ipureintro
  intro h1 h2
  rw [show (n + 1) / 8 = n / 8 by omega] at h1
  exact absurd h1 h
theorem acts_off (c : Dev nD) (n : ℕ) (h : ¬ onB m c (n / 8)) : actsI m hok c n ⊢ actsI m hok c (n + 1) := by
  unfold actsI
  iintro ⟨%A, HA, -⟩
  iexists A; isplitl [HA]; · iexact HA
  ipureintro
  intro h1 u j _ h2
  rw [show (n + 1) / 8 = n / 8 by omega] at h1
  exact absurd h1 h

theorem out_off (c : Dev nD) (t : Fin (cfgA m hok).N) (h : ¬ onB m c (t.val / 8)) : k0_pay7 = outAt m hok c t := (if_neg h).symm
theorem out_on (c : Dev nD) (t : Fin (cfgA m hok).N) (h : onB m c (t.val / 8)) (A : Vec F S4x512x256 .bf16) (hA : ∀ j, slabW A j = actAt m hok c (ptOf t j)) :
    outP (iblk m hok c 5 t) (iblk m hok c 4 t) A = outAt m hok c t := by
  unfold outP
  rw [hA 0, hA 1, hA 2, hA 3]
  exact (if_pos h).symm

theorem acts_step (c : Dev nD) (t : Fin (cfgA m hok).N) (jj : Fin 4) (hjj : t.val % 8 = jj.val) {X : Vec F S512x4096 .bf16} (hX : True → X = rowsAt m c (t.val / 8)) (A : Vec F S4x512x256 .bf16)
    (hA : onB m c (t.val / 8) → ∀ (u : Fin grid0.N) (j : Fin 4), u.val = 8 * (t.val / 8) + j.val → j.val < t.val % 8 → slabW A j = actAt m hok c u) :
    onB m c ((t.val + 1) / 8) → ∀ (u : Fin grid0.N) (j : Fin 4), u.val = 8 * ((t.val + 1) / 8) + j.val → j.val < (t.val + 1) % 8 →
      slabW (slabP A jj (actP X (iblk m hok c 2 t) (iblk m hok c 3 t))) j = actAt m hok c u := by
  intro h1 u j hu h2
  have hjlt := jj.isLt
  have e : (t.val + 1) / 8 = t.val / 8 := by omega
  rw [e] at h1 hu
  by_cases hj : j = jj
  · subst hj
    rw [slab_same, hX trivial]
    have eu : u = t := Fin.ext (by omega)
    subst eu
    rfl
  · rw [slab_other A jj j (by have := mt Fin.ext hj; omega)]
    exact hA h1 u j hu (by have := mt Fin.ext hj; omega)

theorem body_off_lo (c : Dev nD) (t : Fin (cfgA m hok).N) (hoff : ¬ onB m c (t.val / 8)) (hj : t.val % 8 < 4) :
    pre m hok c t ⊢ wp frame (wpE (defs₀ (F := F)) Variants.none c none) Set.univ (bodyAt m hok t) (fun _ => post m hok c t) := by
  unfold pre post inv
  iintro ⟨⟨⟨HT2, HT⟩, HG, HC, HR, HA⟩, HW, HI, HO⟩
  iapply (off_lo c (grid0.coords t) (ms0 m hok t) (hs0 m hok t) (ms1 m hok t) (hs1 m hok t) (ms2 m hok t) (hs2 m hok t) (ms3 m hok t) (hs3 m hok t) (ms4 m hok t) (hs4 m hok t) (ms5 m hok t) (hs5 m hok t) (ms6 m hok t) (hs6 m hok t) fullShare.right (V m c main_v6) (off_word m c t hoff) (lt_of_eq_of_lt (coords0 t).2 hj) _)
  isplitl [HT]; · iexact HT
  iintro HT
  isplitl [HT2 HT HG HC HR HA]
  · isplitl [HT2 HT]
    · isplitl [HT2]; · iexact HT2
      iexact HT
    isplitl [HG]; · iexact HG
    isplitl [HC]; · iapply (copies_off m c t.val hoff); iexact HC
    isplitl [HR]; · iapply (rows_off m c t.val hoff); iexact HR
    iapply (acts_off m hok c t.val hoff); iexact HA
  isplitl [HW]; · iexact HW
  isplitl [HI]; · iexact HI
  iapply (post_lo m hok c t hj); iexact HO

theorem body_off_hi (c : Dev nD) (t : Fin (cfgA m hok).N) (hoff : ¬ onB m c (t.val / 8)) (hj : 4 ≤ t.val % 8) :
    pre m hok c t ⊢ wp frame (wpE (defs₀ (F := F)) Variants.none c none) Set.univ (bodyAt m hok t) (fun _ => post m hok c t) := by
  unfold pre post inv
  iintro ⟨⟨⟨HT2, HT⟩, HG, HC, HR, HA⟩, HW, HI, ⟨%d, HO⟩⟩
  iapply (off_hi c (grid0.coords t) (ms0 m hok t) (hs0 m hok t) (ms1 m hok t) (hs1 m hok t) (ms2 m hok t) (hs2 m hok t) (ms3 m hok t) (hs3 m hok t) (ms4 m hok t) (hs4 m hok t) (ms5 m hok t) (hs5 m hok t) (ms6 m hok t) (hs6 m hok t) fullShare.right (V m c main_v6) (off_word m c t hoff) (le_of_le_of_eq hj (coords0 t).2.symm) _)
  isplitl [HT]; · iexact HT
  isplitl [HO]; · iexists _; iexact HO
  iintro ⟨HT, HO⟩
  isplitl [HT2 HT HG HC HR HA]
  · isplitl [HT2 HT]
    · isplitl [HT2]; · iexact HT2
      iexact HT
    isplitl [HG]; · iexact HG
    isplitl [HC]; · iapply (copies_off m c t.val hoff); iexact HC
    isplitl [HR]; · iapply (rows_off m c t.val hoff); iexact HR
    iapply (acts_off m hok c t.val hoff); iexact HA
  isplitl [HW]; · iexact HW
  isplitl [HI]; · iexact HI
  iapply (post_hi m hok c t hj _ (out_off m hok c t hoff)); iexact HO

theorem body_on_lo (c : Dev nD) (t : Fin (cfgA m hok).N) (hon : onB m c (t.val / 8)) (h0 : t.val % 8 ≠ 0) (hj : t.val % 8 < 4) :
    pre m hok c t ⊢ wp frame (wpE (defs₀ (F := F)) Variants.none c none) Set.univ (bodyAt m hok t) (fun _ => post m hok c t) := by
  unfold pre post inv
  iintro ⟨⟨⟨HT2, HT⟩, HG, HC, ⟨%b, HR, %hb⟩, ⟨%A, HA, %hA⟩⟩, HW, ⟨H0, H1, H2, H3, H4, H5⟩, HO⟩
  iapply (slab c (grid0.coords t) (ms0 m hok t) (hs0 m hok t) (ms1 m hok t) (hs1 m hok t) (ms2 m hok t) (hs2 m hok t) (ms3 m hok t) (hs3 m hok t) (ms4 m hok t) (hs4 m hok t) (ms5 m hok t) (hs5 m hok t) (ms6 m hok t) (hs6 m hok t) fullShare.right (V m c main_v6) (on_word m c t hon) ⟨t.val % 8, hj⟩ (fun e => h0 (congrArg Fin.val e)) (coords0 t).2 b (iblk m hok c 2 t) (iblk m hok c 3 t) A _)
  isplitl [HT]; · iexact HT
  isplitl [H2]; · iexact H2
  isplitl [H3]; · iexact H3
  isplitl [HR]; · iexact HR
  isplitl [HA]; · iexact HA
  iintro ⟨HT, H2, H3, HR, HA⟩
  isplitl [HT2 HT HG HC HR HA]
  · isplitl [HT2 HT]
    · isplitl [HT2]; · iexact HT2
      iexact HT
    isplitl [HG]; · iexact HG
    isplitl [HC]; · iapply (copies_same m c t.val h0); iexact HC
    isplitl [HR]
    · iexists b; isplitl [HR]; · iexact HR
      ipureintro
      intro h1 h2
      rw [show (t.val + 1) / 8 = t.val / 8 by omega]
      exact hb hon (by omega)
    iexists _; isplitl [HA]; · iexact HA
    ipureintro
    exact acts_step m hok c t ⟨t.val % 8, hj⟩ rfl (fun _ => hb hon (by omega)) A hA
  isplitl [HW]; · iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  iapply (post_lo m hok c t hj); iexact HO

theorem body_on_hi (c : Dev nD) (t : Fin (cfgA m hok).N) (hon : onB m c (t.val / 8)) (hj : 4 ≤ t.val % 8) :
    pre m hok c t ⊢ wp frame (wpE (defs₀ (F := F)) Variants.none c none) Set.univ (bodyAt m hok t) (fun _ => post m hok c t) := by
  unfold pre post inv
  iintro ⟨⟨⟨HT2, HT⟩, HG, HC, ⟨%b, HR, %hb⟩, ⟨%A, HA, %hA⟩⟩, HW, ⟨H0, H1, H2, H3, H4, H5⟩, ⟨%d, HO⟩⟩
  iapply (on_hi c (grid0.coords t) (ms0 m hok t) (hs0 m hok t) (ms1 m hok t) (hs1 m hok t) (ms2 m hok t) (hs2 m hok t) (ms3 m hok t) (hs3 m hok t) (ms4 m hok t) (hs4 m hok t) (ms5 m hok t) (hs5 m hok t) (ms6 m hok t) (hs6 m hok t) fullShare.right (V m c main_v6) (on_word m c t hon) (le_of_le_of_eq hj (coords0 t).2.symm) (iblk m hok c 4 t) (iblk m hok c 5 t) A _)
  isplitl [HT]; · iexact HT
  isplitl [H4]; · iexact H4
  isplitl [H5]; · iexact H5
  isplitl [HA]; · iexact HA
  isplitl [HO]; · iexists _; iexact HO
  iintro ⟨HT, H4, H5, HA, HO⟩
  isplitl [HT2 HT HG HC HR HA]
  · isplitl [HT2 HT]
    · isplitl [HT2]; · iexact HT2
      iexact HT
    isplitl [HG]; · iexact HG
    isplitl [HC]; · iapply (copies_same m c t.val (by omega)); iexact HC
    isplitl [HR]
    · iexists b; isplitl [HR]; · iexact HR
      ipureintro
      intro h1 h2
      rw [show (t.val + 1) / 8 = t.val / 8 by omega]
      exact hb hon (by omega)
    iexists A; isplitl [HA]; · iexact HA
    ipureintro
    intro h1 u j hu h2
    have hjj := j.isLt
    exact hA hon u j (by omega) (by omega)
  isplitl [HW]; · iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  iapply (post_hi m hok c t hj _ (out_on m hok c t hon A fun j => hA hon (ptOf t j) j rfl (by have := j.isLt; omega))); iexact HO

theorem body_on_0 (htok : ∀ (c : Dev nD) k, ((m ((c : Thread nD τ).loc main_arg1) : S65536.Idx → BitVec 32) k).toNat < 12288)
    (c : Dev nD) (t : Fin (cfgA m hok).N) (hon : onB m c (t.val / 8)) (h0 : t.val % 8 = 0) :
    pre m hok c t ⊢ wp frame (wpE (defs₀ (F := F)) Variants.none c none) Set.univ (bodyAt m hok t) (fun _ => post m hok c t) := by
  unfold pre post inv
  iintro ⟨⟨⟨HT2, HT⟩, HG, HC, ⟨%b, HR, -⟩, ⟨%A, HA, %hA⟩⟩, ⟨%W, HW⟩, ⟨H0, H1, H2, H3, H4, H5⟩, HO⟩
  iapply (on_0 c (grid0.coords t) (ms0 m hok t) (hs0 m hok t) (ms1 m hok t) (hs1 m hok t) (ms2 m hok t) (hs2 m hok t) (ms3 m hok t) (hs3 m hok t) (ms4 m hok t) (hs4 m hok t) (ms5 m hok t) (hs5 m hok t) (ms6 m hok t) (hs6 m hok t) fullShare.right (V m c main_v6) (on_word m c t hon) ((coords0 t).2.trans h0) (nextW m c t) (nxAt_eq c t _ _ rfl) W (V m c main_arg0) (tokA m c (t.val / 8)) (tokA m c (t.val / 8 + 1)) (iblk m hok c 0 t) (iblk m hok c 1 t)
    (fun _ => blk0_tok m hok htok c t) (fun h3 => blk1_tok m hok htok c t (by obtain ⟨h, _⟩ := (cond3_on m c t).mp h3; exact h)) (iblk m hok c 2 t) (iblk m hok c 3 t) A _)
  isplitl [HT]; · iexact HT
  isplitl [H0]; · iexact H0
  isplitl [H1]; · iexact H1
  isplitl [H2]; · iexact H2
  isplitl [H3]; · iexact H3
  isplitl [HR]; · iexists b; iexact HR
  isplitl [HA]; · iexact HA
  isplitl [HW]; · iexact HW
  isplitl [HC]; · iapply (copies_in m c t h0 hon); iexact HC
  iintro ⟨HT, H0, H1, H2, H3, HR, HA, HW, HC⟩
  isplitl [HT2 HT HG HC HR HA]
  · isplitl [HT2 HT]
    · isplitl [HT2]; · iexact HT2
      iexact HT
    isplitl [HG]; · iexact HG
    isplitl [HC]; · iapply (copies_out m c t); iexact HC
    isplitl [HR]
    · iexists _; isplitl [HR]; · iexact HR
      ipureintro
      intro h1 h2
      rw [show (t.val + 1) / 8 = t.val / 8 by omega]
      rfl
    iexists _; isplitl [HA]; · iexact HA
    ipureintro
    exact acts_step m hok c t 0 (by rw [h0]; rfl) (fun _ => rfl) A hA
  isplitl [HW]; · iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  iapply (post_lo m hok c t (by omega)); iexact HO

theorem body_at (htok : ∀ (c : Dev nD) k, ((m ((c : Thread nD τ).loc main_arg1) : S65536.Idx → BitVec 32) k).toNat < 12288) (c : Dev nD) (t : Fin (cfgA m hok).N) :
    pre m hok c t ⊢ wp frame (wpE (defs₀ (F := F)) Variants.none c none) Set.univ (bodyAt m hok t) (fun _ => post m hok c t) := by
  by_cases hon : onB m c (t.val / 8)
  · by_cases h0 : t.val % 8 = 0
    · exact body_on_0 m hok htok c t hon h0
    · by_cases hj : t.val % 8 < 4
      · exact body_on_lo m hok c t hon h0 hj
      · exact body_on_hi m hok c t hon (by omega)
  · by_cases hj : t.val % 8 < 4
    · exact body_off_lo m hok c t hon hj
    · exact body_off_hi m hok c t hon (by omega)

/-! ## The body obligation -/

theorem pre_of (c : Dev nD) (t : Fin (cfgA m hok).N) :
    iprop((dats m hok 0 c).Φ t.castSucc ∗ (dats m hok 0 c).owesAt () t.castSucc
      ∗ (∃ d, owns (c : Thread nD τ) (ms0 m hok t) fullShare ((dats m hok 0 c).before 0 t d)) ∗ (∃ d, owns (c : Thread nD τ) (ms1 m hok t) fullShare ((dats m hok 0 c).before 1 t d)) ∗ (∃ d, owns (c : Thread nD τ) (ms2 m hok t) fullShare ((dats m hok 0 c).before 2 t d)) ∗ (∃ d, owns (c : Thread nD τ) (ms3 m hok t) fullShare ((dats m hok 0 c).before 3 t d)) ∗ (∃ d, owns (c : Thread nD τ) (ms4 m hok t) fullShare ((dats m hok 0 c).before 4 t d)) ∗ (∃ d, owns (c : Thread nD τ) (ms5 m hok t) fullShare ((dats m hok 0 c).before 5 t d)) ∗ (∃ d, owns (c : Thread nD τ) (ms6 m hok t) fullShare ((dats m hok 0 c).before 6 t d))) ⊢ pre m hok c t := by
  unfold pre Dat.owesAt Pipeline.owesWithin
  rw [show (dats m hok 0 c).owed t.castSucc = 0 from rfl, show (dats m hok 0 c).Φ t.castSucc = inv m hok c t.val from rfl]
  simp only [before0_0, before0_1, before0_2, before0_3, before0_4, before0_5]
  iintro ⟨HI, ⟨%W, -, HW⟩, ⟨%d0, H0⟩, ⟨%d1, H1⟩, ⟨%d2, H2⟩, ⟨%d3, H3⟩, ⟨%d4, H4⟩, ⟨%d5, H5⟩, HO⟩
  isplitl [HI]; · iexact HI
  isplitl [HW]; · iexists W; iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  iexact HO

theorem post6_of (c : Dev nD) (t : Fin (cfgA m hok).N) : post6 m hok c t ⊢
    (match (cfgA m hok).idle 6 ((cfgA m hok).grid.coords t) with
      | true => match ((cfgA m hok).win 6).flush t with
        | false => iprop(∃ d, owns (c : Thread nD τ) (((cfgA m hok).win 6).stage ((cfgA m hok).slots t 6)) fullShare ((dats m hok 0 c).before 6 t d))
        | true => match (cfgA m hok).loose 6 with
          | true => iprop(∃ d, owns (c : Thread nD τ) (((cfgA m hok).win 6).stage ((cfgA m hok).slots t 6)) fullShare (((cfgA m hok).win 6).fill ((cfgA m hok).grid.coords t) d (((cfgA m hok).win 6).cut ((cfgA m hok).grid.coords t) ((dats m hok 0 c).after 6 t))))
          | false => match (cfgA m hok).loose 6 with
        | true => iprop(∃ d, owns (c : Thread nD τ) (((cfgA m hok).win 6).stage ((cfgA m hok).slots t 6)) fullShare (((cfgA m hok).win 6).fill ((cfgA m hok).grid.coords t) d (((cfgA m hok).win 6).cut ((cfgA m hok).grid.coords t) ((dats m hok 0 c).after 6 t))))
        | false => owns (c : Thread nD τ) (((cfgA m hok).win 6).stage ((cfgA m hok).slots t 6)) fullShare ((dats m hok 0 c).after 6 t)
      | false => match (cfgA m hok).loose 6 with
        | true => iprop(∃ d, owns (c : Thread nD τ) (((cfgA m hok).win 6).stage ((cfgA m hok).slots t 6)) fullShare (((cfgA m hok).win 6).fill ((cfgA m hok).grid.coords t) d (((cfgA m hok).win 6).cut ((cfgA m hok).grid.coords t) ((dats m hok 0 c).after 6 t))))
        | false => owns (c : Thread nD τ) (((cfgA m hok).win 6).stage ((cfgA m hok).slots t 6)) fullShare ((dats m hok 0 c).after 6 t) : sProp 𝕄) := by
  have h1 := idle6 m hok t (on01 m 0 _)
  have h2 := flush6 m hok t
  unfold post6
  by_cases hj : t.val % 8 < 4
  · rw [show (cfgA m hok).idle 6 ((cfgA m hok).grid.coords t) = true from h1.trans (decide_eq_true hj), show ((cfgA m hok).win 6).flush t = false from h2.trans (decide_eq_false (by omega)), if_pos hj]
    exact .rfl
  · rw [show (cfgA m hok).idle 6 ((cfgA m hok).grid.coords t) = false from h1.trans (decide_eq_false hj), if_neg hj, after0_6]
    exact .rfl

theorem body_obligation (htok : ∀ (c : Dev nD) k, ((m ((c : Thread nD τ).loc main_arg1) : S65536.Idx → BitVec 32) k).toNat < 12288) (c : Dev nD) :
    Pipeline.BodyObligationLoose (dats m hok 0 c) (defs₀ (F := F)) Variants.none () Set.univ := fun t => by
  rw [bigSep_W0, bigSep_W0, defs₀_row]
  refine triple_restated (body_at m hok htok c t) rfl (pre_of m hok c t) fun _ => ?_
  unfold post Dat.owesAt Pipeline.owesWithin
  rw [show (dats m hok 0 c).owed t.succ = 0 from rfl, show (dats m hok 0 c).Φ t.succ = inv m hok c (t.val + 1) from rfl]
  iintro ⟨HI, ⟨%W, HW⟩, ⟨H0, H1, H2, H3, H4, H5⟩, HO⟩
  isplitl [HI]; · iexact HI
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  ihave HO' := (post6_of m hok c t) $$ HO
  iexact HO'

/-! ## The launch -/

abbrev osem0 : Fin 1 → SemLoc sig := fun j => (![SemLoc.dma cc0_scratch3.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch3.sem) 0 := by
  rw [Pipeline.ownSems0_eq_of_list c osem0 [0] (by decide) (by decide)]; rfl
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = (xLoc c ↦{fullShare} V m c main_arg0) := by
  rw [BI.bigSep_eq_bigSepL_of_eq [main_arg0] (by decide) (by decide)]; rfl
theorem tabs_eq (c : Dev nD) : (Pipeline.ΦT pre0 (tbl m) c : sProp 𝕄) = tabs m c := by
  obtain rfl : c = 0 := Subsingleton.elim _ _
  unfold Pipeline.ΦT Pipeline.prefHeld
  rw [BI.bigSep_eq_bigSepL_of_eq [(0 : Fin 2), 1] (by decide) (by decide)]; rfl
theorem PhiD_eq (c : Dev nD) : (Pipeline.ΦD osem0 spec0 H0 (V m) c : sProp 𝕄)
    = iprop(((∃ f : GBuf F, gLoc c ↦{fullShare} f) ∗ (∃ b, owns (c : Thread nD τ) XbM fullShare b) ∗ (∃ A, owns (c : Thread nD τ) AcM fullShare A))
        ∗ (∃ r, prngReg c r) ∗ semVal ((c : Thread nD τ), SemLoc.dma cc0_scratch3.sem) 0 ∗ (xLoc c ↦{fullShare} V m c main_arg0)) := by
  unfold Pipeline.ΦD
  rw [scopedRest0_eq, ownSems00_eq, hbmPts0_eq]
  simp only [XbM, AcM, owns_whole]; try rfl

theorem hin (c : Dev nD) : iprop(Pipeline.ΦD osem0 spec0 H0 (V m) c ∗ Pipeline.ΦT pre0 (tbl m) c) ⊢ inv m hok c 0 := by
  rw [PhiD_eq, tabs_eq]
  unfold inv
  iintro ⟨⟨⟨HG, ⟨%b, HR⟩, ⟨%A, HA⟩⟩, Hg, HC, HX⟩, HT⟩
  isplitl [HT]; · iexact HT
  isplitl [Hg]; · iexact Hg
  isplitl [HG HC HX]
  · iapply (Entails.of_eq (if_neg (fun h : flyB m c 0 => Nat.lt_irrefl 0 h.1)).symm)
    isplitl [HG]; · iexact HG
    isplitl [HC]; · iexact HC
    iexact HX
  isplitl [HR]
  · iexists b; isplitl [HR]; · iexact HR
    ipureintro; intro _ h; exact absurd h (by decide)
  iexists A; isplitl [HA]; · iexact HA
  ipureintro; intro _ u j _ h; exact absurd h (Nat.not_lt_zero _)

theorem hout (c : Dev nD) : inv m hok c 1024 ⊢ Pipeline.ΦD osem0 spec0 H0 (V m) c := by
  rw [PhiD_eq]
  unfold inv
  iintro ⟨-, Hg, HC, ⟨%b, HR, -⟩, ⟨%A, HA, -⟩⟩
  ihave HC' := (Entails.of_eq (if_neg (fun h : flyB m c 1024 => by obtain ⟨_, h, _⟩ := h; exact absurd h (by decide)))) $$ HC
  icases HC' with ⟨HG, HC, HX⟩
  isplitl [HG HR HA]
  · isplitl [HG]; · iexact HG
    isplitl [HR]; · iexists b; iexact HR
    iexists A; iexact HA
  isplitl [Hg]; · iexact Hg
  isplitl [HC]; · iexact HC
  iexact HX

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

variable (ρ : Dev nD → PrngReg)

set_option backward.isDefEq.respectTransparency.types false in
theorem run_main (htok : ∀ (c : Dev nD) k, ((m ((c : Thread nD τ).loc main_arg1) : S65536.Idx → BitVec 32) k).toNat < 12288) :
    θ_run defs (onTc (τ := τ) (main (F := F))) (s₀ m ρ) (fun r => Pipeline.FramePost (Pipeline.pin pcfgs (fun _ => adm m hok)) (dats m hok) 0 (V m) r ∧ r.2.sem = fun _ => 0) :=
  Pipeline.θ_run_frameP_dma_shared (Q' := _) pcfgs (fun _ => adm m hok) (dats m hok) (0 : Fin 1) launch₀0 osem0 defs₀ Variants.none ownSemFacts0 H0 H0_sub m ρ main
    (hbody := body_obligation m hok htok) (hq := fun _ _ _ => rfl) (howed := fun _ _ => rfl) (V := V m) (hmain := hmain m Variants.none) (hA := A_eq m hok)
    (hpf := fun c k => by obtain rfl : c = 0 := Subsingleton.elim _ _; rfl) (hin := hin m hok) (hout := fun c => (show (dats m hok 0 c).Φ (Fin.last _) = inv m hok c 1024 from congrArg (inv m hok c) N_0) ▸ hout m hok c)

theorem kept0 : main_arg0 ∈ Pipeline.restRefs sig spec0 := Pipeline.mem_restRefs_of main_arg0 (by decide) (by decide)
theorem kept1 : main_arg1 ∈ Pipeline.restRefs sig spec0 := Pipeline.mem_restRefs_of main_arg1 (by decide) (by decide)
theorem kept2 : main_arg2 ∈ Pipeline.restRefs sig spec0 := Pipeline.mem_restRefs_of main_arg2 (by decide) (by decide)
theorem kept3 : main_arg3 ∈ Pipeline.restRefs sig spec0 := Pipeline.mem_restRefs_of main_arg3 (by decide) (by decide)
theorem kept5 : main_arg5 ∈ Pipeline.restRefs sig spec0 := Pipeline.mem_restRefs_of main_arg5 (by decide) (by decide)
theorem kept7 : main_arg7 ∈ Pipeline.restRefs sig spec0 := Pipeline.mem_restRefs_of main_arg7 (by decide) (by decide)

include hok in
theorem frame (htok : ∀ (c : Dev nD) k, ((m ((c : Thread nD τ).loc main_arg1) : S65536.Idx → BitVec 32) k).toNat < 12288) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (show ∀ w, (spec0 w).arr.view.ref ≠ main_arg0 by decide))).trans (V_kept m c main_arg0 (by decide)),
      ((h.1 c).2 main_arg1 (Pipeline.mem_restRefs_of main_arg1 (by decide) (show ∀ w, (spec0 w).arr.view.ref ≠ main_arg1 by decide))).trans (V_kept m c main_arg1 (by decide)),
      ((h.1 c).2 main_arg2 kept2).trans (V_kept m c main_arg2 (by decide)),
      ((h.1 c).2 main_arg3 (Pipeline.mem_restRefs_of main_arg3 (by decide) (show ∀ w, (spec0 w).arr.view.ref ≠ main_arg3 by decide))).trans (V_kept m c main_arg3 (by decide)),
      ((h.1 c).1 2).trans (((dats m hok 0 c).arrAt_in 2 rfl _).trans (V_kept m c main_arg4 (by decide))),
      ((h.1 c).2 main_arg5 (Pipeline.mem_restRefs_of main_arg5 (by decide) (show ∀ w, (spec0 w).arr.view.ref ≠ main_arg5 by decide))).trans (V_kept m c main_arg5 (by decide)),
      ((h.1 c).1 4).trans (((dats m hok 0 c).arrAt_in 4 rfl _).trans (V_kept m c main_arg6 (by decide))),
      ((h.1 c).2 main_arg7 (Pipeline.mem_restRefs_of main_arg7 (by decide) (show ∀ w, (spec0 w).arr.view.ref ≠ main_arg7 by decide))).trans (V_kept m c main_arg7 (by decide))⟩, h.2⟩) (run_main m hok ρ htok)

end Cert.Kernel8Ideal.Gmm

end
-- ==== Proof.GmmPre.lean ====
/- The grouped product's preconditions read as bounds on the tables and finiteness of the operands, and the frames. -/
module

public import proofs.«01_k».proof.Proof.GmmFrame
public import proofs.«01_k».proof.Proof.Gen.Kernel8
public import proofs.«01_k».proof.Proof.Gen.Reference8Ideal.Run
public import proofs.«01_k».proof.Proof.Gen.Pre_rows_in_range
public import proofs.«01_k».proof.Proof.Gen.Pre_rows_in_range_finite
public import Idealize.ShloMosaic.Lib.StableHlo.Predicate
public import Idealize.ShloMosaic.Lib.Quiescent

@[expose] public section

set_option maxRecDepth 16384

noncomputable section

namespace Cert.Gmm

open Idealize.ShloMosaic Idealize.ShloMosaic.TcCoe Idealize.SL.Sem

/-- A word at least zero and below `n`, both read as signed integers, is below `n` as a natural number. -/
theorem range_of (w n : BitVec 32) (k : ℕ) (hn : n.toInt = (k : Int)) (h : IntOp.andi (IntOp.cmpi .sge w 0#32) (IntOp.cmpi .slt w n) = 1#1) : w.toNat < k := by
  have h' : BitVec.ofBool ((0#32).sle w) &&& BitVec.ofBool (w.slt n) = 1#1 := h
  have hb : (0#32).sle w = true ∧ w.slt n = true := by
    cases h1 : (0#32).sle w <;> cases h2 : w.slt n <;> rw [h1, h2] at h' <;> first | exact ⟨rfl, rfl⟩ | exact absurd h' (by decide)
  have a := BitVec.sle_iff_toInt_le.1 hb.1
  have b := BitVec.slt_iff_toInt_lt.1 hb.2
  rw [hn] at b
  have z : (0#32 : BitVec 32).toInt = 0 := by decide
  rw [z] at a
  rw [BitVec.toInt_eq_toNat_cond] at a b
  have := w.isLt
  split at a <;> omega

/-- A value of magnitude below infinity is a number. -/
theorem finite_of (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  refine ⟨fun e => ?_, fun e => ?_⟩ <;> subst e <;> simp at h

section
variable {F : FTy → Type} [FloatOps F]
  (x0 : FVec F Cert.Pre_rows_in_range.S12288x4096 .f32) (x1 : IVec Cert.Pre_rows_in_range.S65536 32) (x2 : IVec Cert.Pre_rows_in_range.S128 32) (x3 : IVec Cert.Pre_rows_in_range.S1 32)
  (x4 : FVec F Cert.Pre_rows_in_range.S1x32x4096x2048 .f32) (x5 : FVec F Cert.Pre_rows_in_range.S1x32x2048 .f32) (x6 : FVec F Cert.Pre_rows_in_range.S1x32x1024x4096 .f32) (x7 : FVec F Cert.Pre_rows_in_range.S1x32x4096 .f32)

theorem range_pre (h : (Cert.Pre_rows_in_range.fn x0 x1 x2 x3 x4 x5 x6 x7).1 = (fun _ => 1#1) ∧ (Cert.Pre_rows_in_range.fn x0 x1 x2 x3 x4 x5 x6 x7).2 = (fun _ => 1#1)) :
    (∀ i, (x1 i).toNat < 12288) ∧ ∀ i, (x2 i).toNat < 32 :=
  ⟨fun i => range_of _ 12288#32 12288 (by decide) (congrFun h.1 i), fun i => range_of _ 32#32 32 (by decide) (congrFun h.2 i)⟩
end

section
variable (x0 : FVec Ideal Cert.Pre_rows_in_range.S12288x4096 .f32) (x1 : IVec Cert.Pre_rows_in_range.S65536 32) (x2 : IVec Cert.Pre_rows_in_range.S128 32) (x3 : IVec Cert.Pre_rows_in_range.S1 32)
  (x4 : FVec Ideal Cert.Pre_rows_in_range.S1x32x4096x2048 .f32) (x5 : FVec Ideal Cert.Pre_rows_in_range.S1x32x2048 .f32) (x6 : FVec Ideal Cert.Pre_rows_in_range.S1x32x1024x4096 .f32) (x7 : FVec Ideal Cert.Pre_rows_in_range.S1x32x4096 .f32)

theorem finite_pre (h : (Cert.Pre_rows_in_range_finite.fn x0 x1 x2 x3 x4 x5 x6 x7).1 = (fun _ => 1#1) ∧ (Cert.Pre_rows_in_range_finite.fn x0 x1 x2 x3 x4 x5 x6 x7).2.1 = (fun _ => 1#1)
      ∧ (Cert.Pre_rows_in_range_finite.fn x0 x1 x2 x3 x4 x5 x6 x7).2.2.1 = (fun _ => 1#1) ∧ (Cert.Pre_rows_in_range_finite.fn x0 x1 x2 x3 x4 x5 x6 x7).2.2.2.1 = (fun _ => 1#1)
      ∧ (Cert.Pre_rows_in_range_finite.fn x0 x1 x2 x3 x4 x5 x6 x7).2.2.2.2 = (fun _ => 1#1)) :
    ((∀ i, (x1 i).toNat < 12288) ∧ ∀ i, (x2 i).toNat < 32)
      ∧ (∀ i, (x0 i : EReal) ≠ ⊤ ∧ (x0 i : EReal) ≠ ⊥) ∧ (∀ i, (x4 i : EReal) ≠ ⊤ ∧ (x4 i : EReal) ≠ ⊥) ∧ ∀ i, (x5 i : EReal) ≠ ⊤ ∧ (x5 i : EReal) ≠ ⊥ :=
  ⟨⟨fun i => range_of _ 12288#32 12288 (by decide) (congrFun h.1 i), fun i => range_of _ 32#32 32 (by decide) (congrFun h.2.1 i)⟩,
    fun i => finite_of _ (congrFun h.2.2.1 i), fun i => finite_of _ (congrFun h.2.2.2.1 i), fun i => finite_of _ (congrFun h.2.2.2.2 i)⟩
end

section
open Cert.Kernel8Ideal Cert.Kernel8Ideal.Gen Cert.Kernel8Ideal.Gmm
variable {F : FTy → Type} [FloatOps F] (m : (ℓ : Loc nD τ sig) → Buf (Elt F) ℓ)

/-- Expert numbers in range make every block of the expert stacks lie inside them. -/
theorem ok_tbl (h : ∀ (c : Dev nD) i, ((m ((c : Thread nD τ).loc main_arg2) : S128.Idx → BitVec 32) i).toNat < 32) : ok0 (tbl m) :=
  ok_of (tbl m) fun t => by
    have e : (tbl m 0 : S128.Idx → BitVec 32) = (m (((0 : Dev nD) : Thread nD τ).loc main_arg2) : S128.Idx → BitVec 32) := V_kept m 0 main_arg2 (by decide)
    rw [e]
    exact h 0 _
end

/-- The idealized kernel's frame. -/
theorem kernel8Ideal : Cert.quiescent_Kernel8Ideal := fun m ρ h =>
  Cert.Kernel8Ideal.Gmm.frame (F := Ideal) m (ok_tbl m fun c => (range_pre _ _ _ _ _ _ _ _ (h c)).2) ρ fun c => (range_pre _ _ _ _ _ _ _ _ (h c)).1

/-- The idealized kernel's frame under the value claim's precondition. -/
theorem kernel8Ideal_finite : Cert.quiescent_Kernel8Ideal_pre_rows_in_range_finite := fun m ρ h =>
  Cert.Kernel8Ideal.Gmm.frame (F := Ideal) m (ok_tbl m fun c => (finite_pre _ _ _ _ _ _ _ _ (h c)).1.2) ρ fun c => (finite_pre _ _ _ _ _ _ _ _ (h c)).1.1

/-- The reference runs, leaves its arguments and the semaphores as they were. -/
theorem reference8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

theorem reference8_finite : Cert.quiescent_Reference8Ideal_pre_rows_in_range_finite := fun m ρ _ =>
  (θ_run Cert.Reference8Ideal.defs _ _).mono (fun r h => ⟨fun c => (h c).2, sem_eq_zero_of_no_sems (by decide) r.2⟩) (Cert.Reference8Ideal.Value.run (F := Ideal) m ρ)

end Cert.Gmm

end
-- ==== Proof.GmmPay.lean ====
/- The grouped product's vector expressions at the extended reals, read at an index. -/
module

public import proofs.«01_k».proof.Proof.GmmBody
public import Idealize.ShloMosaic.Lib.Pointwise
public import Idealize.ShloMosaic.Lib.IdealHost

@[expose] public section

set_option maxRecDepth 16384

noncomputable section

namespace Cert.Kernel8Ideal.Gmm

open Cert.Kernel8Ideal Cert.Kernel8Ideal.Gen
open Idealize.ShloMosaic Idealize.ShloMosaic.TcCoe Idealize.SL.Sem

/-- The first product's row of a tile: a row of tokens by a column of the expert's block, and its bias. -/
theorem pay8_apply (X : Vec Ideal S512x4096 .bf16) (w : Vec Ideal S1x1x4096x512 .f32) (b : Vec Ideal S1x1x1x512 .f32) (r q : Fin 512) :
    k0_pay8 X w b (ix2 r q) = (∑ k : Fin 4096, X (ix2 r k) * w (ix4 0 0 k q)) + b (ix4 0 0 0 q) := by
  unfold k0_pay8
  pointwise

/-- Column `s` of the selection matrix takes this column of the block. -/
def src (s : ℕ) : ℕ := if s < 128 then 2 * s else 2 * (s - 128) + 1

theorem src_lt (s : Fin 256) : src s.val < 256 := by have := s.isLt; unfold src; split <;> omega

theorem src_word : ∀ s : Fin 256, Scalar.select (Scalar.cmpi .slt (BitVec.ofNat 32 s.val) 128#32) (Scalar.muli 2#32 (BitVec.ofNat 32 s.val))
    (Scalar.addi (Scalar.muli 2#32 (Scalar.subi (BitVec.ofNat 32 s.val) 128#32)) 1#32) = BitVec.ofNat 32 (src s.val) := by decide +kernel

theorem word_eq_iff (k s : Fin 256) : (Scalar.cmpi .eq (BitVec.ofNat 32 k.val) (BitVec.ofNat 32 (src s.val)) = 1#1) ↔ k.val = src s.val := by
  have h1 := src_lt s
  have h2 := k.isLt
  show BitVec.ofBool (BitVec.ofNat 32 k.val == BitVec.ofNat 32 (src s.val)) = 1#1 ↔ _
  by_cases e : k.val = src s.val
  · simp [e]
  · have : ¬ BitVec.ofNat 32 k.val = BitVec.ofNat 32 (src s.val) := fun h => e (by
      have := congrArg BitVec.toNat h
      rw [BitVec.toNat_ofNat, BitVec.toNat_ofNat, Nat.mod_eq_of_lt (by omega), Nat.mod_eq_of_lt (by omega)] at this
      exact this)
    rw [show (BitVec.ofNat 32 k.val == BitVec.ofNat 32 (src s.val)) = false from beq_eq_false_iff_ne.2 this]
    simp [e]

theorem sel_apply (k s : Fin 256) : (k0_pay10 (F := Ideal)) (ix2 k s) = (if k.val = src s.val then 1 else 0 : EReal) := by
  have h : (k0_pay10 (F := Ideal)) (ix2 k s) = Scalar.select (Scalar.cmpi .eq (BitVec.ofNat 32 k.val)
      (Scalar.select (Scalar.cmpi .slt (BitVec.ofNat 32 s.val) 128#32) (Scalar.muli 2#32 (BitVec.ofNat 32 s.val))
        (Scalar.addi (Scalar.muli 2#32 (Scalar.subi (BitVec.ofNat 32 s.val) 128#32)) 1#32)))
      (Ideal.ofBits .f32 0x3F800000#32 : EReal) (Ideal.ofBits .f32 0x00000000#32) := by
    unfold k0_pay10
    pointwise
    rfl
  rw [h, src_word, Ideal.ofBits_one_f32, Ideal.ofBits_zero_f32]
  by_cases e : k.val = src s.val
  · rw [(word_eq_iff k s).2 e, if_pos e]; rfl
  · rw [if_neg e]
    exact if_neg (fun h => e ((word_eq_iff k s).1 h))

/-- The three terms of the exact product with the selection matrix. -/
def dei (u : FVec Ideal S512x256 .f32) : FVec Ideal S512x256 .f32 :=
  addf (addf (matmul dot_S512x256_S256x256_S512x256_1_0_0_1_n_n none (truncf .bf16 u Facts₀.bitsLt_bf16_f32 : FVec Ideal S512x256 .bf16) (k0_pay10 (F := Ideal)) (constant S512x256 .f32 0x00000000#32))
    (matmul dot_S512x256_S256x256_S512x256_1_0_0_1_n_n none (truncf .bf16 (subf u (extf .f32 (truncf .bf16 u Facts₀.bitsLt_bf16_f32 : FVec Ideal S512x256 .bf16) Facts₀.bitsLt_bf16_f32)) Facts₀.bitsLt_bf16_f32 : FVec Ideal S512x256 .bf16) (k0_pay10 (F := Ideal)) (constant S512x256 .f32 0x00000000#32)))
    (matmul dot_S512x256_S256x256_S512x256_1_0_0_1_n_n none (truncf .bf16 (subf (subf u (extf .f32 (truncf .bf16 u Facts₀.bitsLt_bf16_f32 : FVec Ideal S512x256 .bf16) Facts₀.bitsLt_bf16_f32))
      (extf .f32 (truncf .bf16 (subf u (extf .f32 (truncf .bf16 u Facts₀.bitsLt_bf16_f32 : FVec Ideal S512x256 .bf16) Facts₀.bitsLt_bf16_f32)) Facts₀.bitsLt_bf16_f32 : FVec Ideal S512x256 .bf16) Facts₀.bitsLt_bf16_f32)) Facts₀.bitsLt_bf16_f32 : FVec Ideal S512x256 .bf16) (k0_pay10 (F := Ideal)) (constant S512x256 .f32 0x00000000#32))

theorem sum_sel (f : Fin 256 → EReal) (s : Fin 256) : (∑ k : Fin 256, f k * (if k.val = src s.val then 1 else 0 : EReal)) = f ⟨src s.val, src_lt s⟩ := by
  rw [Finset.sum_eq_single (⟨src s.val, src_lt s⟩ : Fin 256)]
  · rw [if_pos rfl, mul_one]
  · intro k _ hk
    rw [if_neg (fun h => hk (Fin.ext h)), mul_zero]
  · intro h; exact absurd (Finset.mem_univ _) h

theorem sub_self_of {x : EReal} (h : x ≠ ⊤) (h' : x ≠ ⊥) : x - x = 0 := EReal.sub_self h h'

/-- On a finite row the product with the selection matrix takes the columns as they are. -/
theorem dei_apply (u : FVec Ideal S512x256 .f32) (r : Fin 512) (s : Fin 256) (hu : ∀ k, u (ix2 r k) ≠ ⊤ ∧ u (ix2 r k) ≠ ⊥) :
    dei u (ix2 r s) = u (ix2 r ⟨src s.val, src_lt s⟩) := by
  unfold dei
  pointwise
  simp only [sel_apply]
  have z : ∀ k : Fin 256, u (ix2 r k) - u (ix2 r k) = 0 := fun k => sub_self_of (hu k).1 (hu k).2
  simp only [z, sub_zero, zero_mul, Finset.sum_const_zero, add_zero, sum_sel]

/-- The gate, of a column of the first product and the next. -/
def gate (g l : EReal) : EReal :=
  let a := min g (Ideal.ofBits .f32 0x40E00000#32)
  a * Ideal.logistic (Ideal.ofBits .f32 0x3FD9DB23#32 * a) * (min (Ideal.ofBits .f32 0x40E00000#32) (max (Ideal.ofBits .f32 0xC0E00000#32) l) + 1)

theorem pay16_apply (v v' : FVec Ideal S512x256 .f32) (r : Fin 512) (q : Fin 128) :
    k0_pay16 v v' (ix2 r q) = gate (addf v v' (ix2 r ⟨q.val, by omega⟩)) (addf v v' (ix2 r ⟨128 + q.val, by omega⟩)) := by
  unfold k0_pay16 gate
  pointwise

/-- The activations of a tile's row block: the gate of neighbouring columns of the first product. -/
theorem actP_apply (X : Vec Ideal S512x4096 .bf16) (w : Vec Ideal S1x1x4096x512 .f32) (b : Vec Ideal S1x1x1x512 .f32) (r : Fin 512) (q : Fin 256)
    (hu : ∀ k, k0_pay8 X w b (ix2 r k) ≠ ⊤ ∧ k0_pay8 X w b (ix2 r k) ≠ ⊥) :
    actP X w b (Idealize.ShloMosaic.ix3 0 r q) = gate (k0_pay8 X w b (ix2 r ⟨2 * q.val, by omega⟩)) (k0_pay8 X w b (ix2 r ⟨2 * q.val + 1, by omega⟩)) := by
  have e : actP X w b = shapeCast S1x512x256 (concatenate S512x256 1 [⟨S512x128, k0_pay16 (k0_pay14 X w b) (k0_pay15 X w b)⟩,
      ⟨S512x128, k0_pay16 (k0_pay23 (k0_pay8 X w b)) (matmul dot_S512x256_S256x256_S512x256_1_0_0_1_n_n none (k0_pay22 (k0_pay8 X w b)) (k0_pay18 (F := Ideal)) (constant S512x256 .f32 0x00000000#32))⟩]
      Facts₀.concatenates_S512x128_S512x128_S512x256_d1) Facts₀.shapeCasts_S512x256_S1x512x256 := rfl
  have d1 : addf (k0_pay14 X w b) (k0_pay15 X w b) = dei (k0_pay9 X w b) := rfl
  have d2 : addf (k0_pay23 (k0_pay8 X w b)) (matmul dot_S512x256_S256x256_S512x256_1_0_0_1_n_n none (k0_pay22 (k0_pay8 X w b)) (k0_pay18 (F := Ideal)) (constant S512x256 .f32 0x00000000#32)) = dei (k0_pay17 (k0_pay8 X w b)) := rfl
  have u1 : ∀ k : Fin 256, k0_pay9 X w b (ix2 r k) = k0_pay8 X w b (ix2 r ⟨k.val, by omega⟩) := fun k => by
    unfold k0_pay9; pointwise
  have u2 : ∀ k : Fin 256, k0_pay17 (k0_pay8 X w b) (ix2 r k) = k0_pay8 X w b (ix2 r ⟨256 + k.val, by omega⟩) := fun k => by
    unfold k0_pay17; pointwise
  rw [e]
  by_cases hq : q.val < 128
  · have h : (shapeCast S1x512x256 (concatenate S512x256 1 [⟨S512x128, k0_pay16 (k0_pay14 X w b) (k0_pay15 X w b)⟩,
      ⟨S512x128, k0_pay16 (k0_pay23 (k0_pay8 X w b)) (matmul dot_S512x256_S256x256_S512x256_1_0_0_1_n_n none (k0_pay22 (k0_pay8 X w b)) (k0_pay18 (F := Ideal)) (constant S512x256 .f32 0x00000000#32))⟩]
      Facts₀.concatenates_S512x128_S512x128_S512x256_d1) Facts₀.shapeCasts_S512x256_S1x512x256) (Idealize.ShloMosaic.ix3 0 r q) = k0_pay16 (k0_pay14 X w b) (k0_pay15 X w b) (ix2 r ⟨q.val, hq⟩) := by
      generalize k0_pay16 (k0_pay14 X w b) (k0_pay15 X w b) = A
      generalize k0_pay16 (k0_pay23 (k0_pay8 X w b)) _ = B
      pointwise
      rw [dif_pos hq]
    rw [h, pay16_apply, d1, dei_apply _ _ _ (fun k => by rw [u1]; exact hu _), dei_apply _ _ _ (fun k => by rw [u1]; exact hu _), u1, u1]
    congr 3 <;> refine Fin.ext ?_ <;> simp only [src] <;> split <;> omega
  · have h : (shapeCast S1x512x256 (concatenate S512x256 1 [⟨S512x128, k0_pay16 (k0_pay14 X w b) (k0_pay15 X w b)⟩,
      ⟨S512x128, k0_pay16 (k0_pay23 (k0_pay8 X w b)) (matmul dot_S512x256_S256x256_S512x256_1_0_0_1_n_n none (k0_pay22 (k0_pay8 X w b)) (k0_pay18 (F := Ideal)) (constant S512x256 .f32 0x00000000#32))⟩]
      Facts₀.concatenates_S512x128_S512x128_S512x256_d1) Facts₀.shapeCasts_S512x256_S1x512x256) (Idealize.ShloMosaic.ix3 0 r q) = k0_pay16 (k0_pay23 (k0_pay8 X w b)) (matmul dot_S512x256_S256x256_S512x256_1_0_0_1_n_n none (k0_pay22 (k0_pay8 X w b)) (k0_pay18 (F := Ideal)) (constant S512x256 .f32 0x00000000#32)) (ix2 r ⟨q.val - 128, by omega⟩) := by
      generalize k0_pay16 (k0_pay14 X w b) (k0_pay15 X w b) = A
      generalize k0_pay16 (k0_pay23 (k0_pay8 X w b)) _ = B
      pointwise
      rw [dif_neg hq]
    rw [h, pay16_apply, d2, dei_apply _ _ _ (fun k => by rw [u2]; exact hu _), dei_apply _ _ _ (fun k => by rw [u2]; exact hu _), u2, u2]
    congr 3 <;> refine Fin.ext ?_ <;> simp only [src] <;> split <;> omega

/-- The output block: the second bias and the four row blocks' products. -/
theorem outP_apply (b : Vec Ideal S1x1x1x1024 .f32) (w0 w1 w2 w3 : Vec Ideal S1x1x256x1024 .f32) (a0 a1 a2 a3 : Vec Ideal S1x512x256 .bf16) (r : Fin 512) (q : Fin 1024) :
    k0_pay6 (k0_pay72 b w0 a0 w1 a1 w2 a2) (k0_pay73 w3) a3 (ix2 r q)
      = b (ix4 0 0 0 q) + (∑ k : Fin 256, a0 (Idealize.ShloMosaic.ix3 0 r k) * w0 (ix4 0 0 k q)) + (∑ k : Fin 256, a1 (Idealize.ShloMosaic.ix3 0 r k) * w1 (ix4 0 0 k q))
        + (∑ k : Fin 256, a2 (Idealize.ShloMosaic.ix3 0 r k) * w2 (ix4 0 0 k q)) + (∑ k : Fin 256, a3 (Idealize.ShloMosaic.ix3 0 r k) * w3 (ix4 0 0 k q)) := by
  unfold k0_pay6 k0_pay72 k0_pay73
  pointwise

end Cert.Kernel8Ideal.Gmm

end
-- ==== Proof.GmmRef.lean ====
/- The reference of the grouped product at the extended reals, read at an index. -/
module

public import proofs.«01_k».proof.Proof.GmmPay
public import proofs.«01_k».proof.Proof.Gen.Reference8Ideal.Read
public import Idealize.ShloMosaic.Lib.Routing.Ops

@[expose] public section

set_option maxRecDepth 16384

noncomputable section

namespace Cert.Reference8Ideal.Gmm

open Cert.Reference8Ideal Cert.Reference8Ideal.Read
open Idealize.ShloMosaic Idealize.ShloMosaic.TcCoe Idealize.SL.Sem
open Cert.Kernel8Ideal.Gmm (gate)

/-- Members of a stack of matrices taken by a column of member numbers. -/
theorem gather_row3 {α : Type} {nb A B n : ℕ} (d : GatherDims ⟨3, ![nb, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![nb, A, B]⟩ : Shape).Idx → α) (idx : IVec ⟨2, ![n, 1]⟩ 32) (c : Fin n) (y : Fin A) (z : Fin B) (b : Fin nb)
    (hb : idx (ix2 c (0 : Fin 1)) = BitVec.ofNat 32 b.val) (hnb : nb < 2 ^ 31) : Host.gather d x idx (ix3 c y z) = x (ix3 b y z) := by
  obtain ⟨off, coll, ob, sb, sim, ivd, ss, wf⟩ := d
  simp only at hoff hcoll hob hsim hivd
  subst hoff hcoll hob hsim hivd
  unfold Host.gather
  refine congrArg x (funext fun a => Fin.ext ?_)
  match a with
  | ⟨0, _⟩ =>
    show GatherDims.start _ (ix3 c y z) idx 0 + GatherDims.batchCoord _ (ix3 c y z) 0 + GatherDims.offCoord _ (ix3 c y z) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hs : ss 0 = 1 := GatherDims.slice_collapsed ⟨[1, 2], [0], [], sb, [0], 1, ss, wf⟩ 0 (List.mem_singleton.mpr rfl)
    have hsi : GatherDims.siIdx (⟨[1, 2], [0], [], sb, [0], 1, ss, wf⟩ : GatherDims ⟨3, ![nb, A, B]⟩ ⟨2, ![n, 1]⟩ ⟨3, ![n, A, B]⟩) (ix3 c y z) ⟨List.idxOf (0 : Fin 3) [0],
        List.idxOf_lt_length_iff.2 (List.mem_singleton.mpr rfl)⟩ = ix2 c (0 : Fin 1) := by
      funext b'; refine Fin.ext ?_
      match b' with
      | ⟨0, _⟩ => rfl
      | ⟨1, _⟩ => rfl
    refine (congrArg (fun i => min (idx i).toInt.toNat (nb - ss 0)) hsi).trans ?_
    have hbl := b.isLt
    rw [hb, hs, StableHlo.Predicate.toInt_ofNat_small _ (by omega)]
    show min ((b.val : Int)).toNat (nb - 1) = b.val
    omega
  | ⟨1, _⟩ =>
    show GatherDims.start _ (ix3 c y z) idx 1 + GatherDims.batchCoord _ (ix3 c y z) 1 + GatherDims.offCoord _ (ix3 c y z) 1 = y.val
    rw [GatherDims.batchCoord_eq_zero _ _ _ List.not_mem_nil]
    unfold GatherDims.start
    rw [dif_neg (show (1 : Fin 3) ∉ [(0 : Fin 3)] by decide), Nat.zero_add]
    rfl
  | ⟨2, _⟩ =>
    show GatherDims.start _ (ix3 c y z) idx 2 + GatherDims.batchCoord _ (ix3 c y z) 2 + GatherDims.offCoord _ (ix3 c y z) 2 = z.val
    rw [GatherDims.batchCoord_eq_zero _ _ _ List.not_mem_nil]
    unfold GatherDims.start
    rw [dif_neg (show (2 : Fin 3) ∉ [(0 : Fin 3)] by decide), Nat.zero_add]
    rfl

variable (x0 : (⟨S12288x4096, .f32⟩ : BufTy).Contents (Elt Ideal)) (x1 : (⟨S65536, .i32⟩ : BufTy).Contents (Elt Ideal)) (x2 : (⟨S128, .i32⟩ : BufTy).Contents (Elt Ideal))
  (x3 : (⟨S1, .i32⟩ : BufTy).Contents (Elt Ideal)) (x4 : (⟨S1x32x4096x2048, .f32⟩ : BufTy).Contents (Elt Ideal)) (x5 : (⟨S1x32x2048, .f32⟩ : BufTy).Contents (Elt Ideal))
  (x6 : (⟨S1x32x1024x4096, .f32⟩ : BufTy).Contents (Elt Ideal)) (x7 : (⟨S1x32x4096, .f32⟩ : BufTy).Contents (Elt Ideal))

/-- The token of a slot. -/
def tokR (s : ℕ) : Fin 12288 := ⟨(x1 (ix1 (n0 := 65536) ⟨s % 65536, Nat.mod_lt _ (by decide)⟩)).toNat % 12288, Nat.mod_lt _ (by decide)⟩
/-- The expert of a tile. -/
def expR (b : Fin 128) : Fin 32 := ⟨(x2 (ix1 b)).toNat % 32, Nat.mod_lt _ (by decide)⟩

/-- The first product of a tile's row. -/
def uR (b : Fin 128) (r : Fin 512) (q : Fin 2048) : EReal :=
  (∑ k : Fin 4096, x0 (ix2 (tokR x1 (512 * b.val + r.val)) k) * x4 (ix4 0 (expR x2 b) k q)) + x5 (ix3 0 (expR x2 b) q)

/-- The second product of a tile's row. -/
def yR (b : Fin 128) (r : Fin 512) (c : Fin 4096) : EReal :=
  (∑ k : Fin 1024, gate (uR x0 x1 x2 x4 x5 b r ⟨2 * k.val, by omega⟩) (uR x0 x1 x2 x4 x5 b r ⟨2 * k.val + 1, by omega⟩) * x6 (ix4 0 (expR x2 b) k c))
    + x7 (ix3 0 (expR x2 b) c)

theorem ofNat_mod (w : BitVec 32) (n : ℕ) (h : w.toNat < n) : w = BitVec.ofNat 32 (w.toNat % n) := by
  rw [Nat.mod_eq_of_lt h, BitVec.ofNat_toNat, BitVec.setWidth_eq]

section
variable (h1 : ∀ i, (x1 i).toNat < 12288) (h2 : ∀ i, (x2 i).toNat < 32)
include h1

theorem v2_at (b : Fin 128) (r : Fin 512) (k : Fin 4096) : val_main_v2 (F := Ideal) x0 x1 (ix3 b r k) = x0 (ix2 (tokR x1 (512 * b.val + r.val)) k) := by
  rw [val_main_v2_apply]
  have hb := b.isLt
  have hr := r.isLt
  have hk := k.isLt
  have ei : idx_main_v2 (ix3 b r k) = ix2 (n0 := 65536) (n1 := 4096) ⟨512 * b.val + r.val, by omega⟩ k := by
    funext a
    match a with
    | ⟨0, _⟩ => refine Fin.ext ?_; show ((b.val * 512 + r.val) * 4096 + k.val) / 4096 = 512 * b.val + r.val; omega
    | ⟨1, _⟩ => refine Fin.ext ?_; show ((b.val * 512 + r.val) * 4096 + k.val) % 4096 = k.val; omega
  rw [ei]
  refine Routing.gather_row gather_S12288x4096_S65536x1_S65536x4096_1_0_n_n_0_1_14096 rfl rfl rfl rfl rfl x0 (val_main_v0 (F := Ideal) x1) _ k _ ?_ (by decide)
  rw [val_main_v0_apply]
  have e : idx_main_v0 (ValueIdx.ix2 (n0 := 65536) (n1 := 1) ⟨512 * b.val + r.val, by omega⟩ 0) = ix1 (n0 := 65536) ⟨(512 * b.val + r.val) % 65536, Nat.mod_lt _ (by decide)⟩ := by
    funext a
    match a with
    | ⟨0, _⟩ => exact Fin.ext (Nat.mod_eq_of_lt (show 512 * b.val + r.val < 65536 by omega)).symm
  refine (congrArg x1 e).trans ?_
  exact ofNat_mod _ _ (h1 _)

include h2
omit h1

theorem v4_at (b : Fin 128) : val_main_v4 (F := Ideal) x2 (ix2 b (0 : Fin 1)) = BitVec.ofNat 32 (expR x2 b).val := by
  rw [val_main_v4_apply]
  have e : idx_main_v4 (ix2 b (0 : Fin 1)) = ix1 b := by
    funext a
    match a with
    | ⟨0, _⟩ => rfl
  refine (congrArg x2 e).trans ?_
  exact ofNat_mod _ _ (h2 _)

theorem v5_at (b : Fin 128) (k : Fin 4096) (q : Fin 2048) : val_main_v5 (F := Ideal) x2 x4 (ix3 b k q) = x4 (ix4 0 (expR x2 b) k q) := by
  refine (gather_row3 gather_S32x4096x2048_S128x1_S128x4096x2048_12_0_n_n_0_1_140962048 rfl rfl rfl rfl rfl (val_main_v3 (F := Ideal) x4) (val_main_v4 (F := Ideal) x2) b k q _ (v4_at x2 h2 b) (by decide)).trans ?_
  rw [val_main_v3_apply]
  refine congrArg x4 (funext fun a => ?_)
  have he := (expR x2 b).isLt
  have hk := k.isLt
  have hq := q.isLt
  match a with
  | ⟨0, _⟩ => rfl
  | ⟨1, _⟩ => refine Fin.ext ?_; show (((expR x2 b).val * 4096 + k.val) * 2048 + q.val) / 8388608 % 32 = (expR x2 b).val; omega
  | ⟨2, _⟩ => refine Fin.ext ?_; show (((expR x2 b).val * 4096 + k.val) * 2048 + q.val) / 2048 % 4096 = k.val; omega
  | ⟨3, _⟩ => refine Fin.ext ?_; show (((expR x2 b).val * 4096 + k.val) * 2048 + q.val) % 2048 = q.val; omega

theorem v35_at (b : Fin 128) (k : Fin 1024) (q : Fin 4096) : val_main_v35 (F := Ideal) x2 x6 (ix3 b k q) = x6 (ix4 0 (expR x2 b) k q) := by
  refine (gather_row3 gather_S32x1024x4096_S128x1_S128x1024x4096_12_0_n_n_0_1_110244096 rfl rfl rfl rfl rfl (val_main_v33 (F := Ideal) x6) (val_main_v34 (F := Ideal) x2) b k q _ (v4_at x2 h2 b) (by decide)).trans ?_
  rw [val_main_v33_apply]
  refine congrArg x6 (funext fun a => ?_)
  have he := (expR x2 b).isLt
  have hk := k.isLt
  have hq := q.isLt
  match a with
  | ⟨0, _⟩ => rfl
  | ⟨1, _⟩ => refine Fin.ext ?_; show (((expR x2 b).val * 1024 + k.val) * 4096 + q.val) / 4194304 % 32 = (expR x2 b).val; omega
  | ⟨2, _⟩ => refine Fin.ext ?_; show (((expR x2 b).val * 1024 + k.val) * 4096 + q.val) / 4096 % 1024 = k.val; omega
  | ⟨3, _⟩ => refine Fin.ext ?_; show (((expR x2 b).val * 1024 + k.val) * 4096 + q.val) % 4096 = q.val; omega

theorem v11_at (b : Fin 128) (r : Fin 512) (q : Fin 2048) : val_main_v11 (F := Ideal) x2 x5 (ix3 b r q) = x5 (ix3 0 (expR x2 b) q) := by
  rw [val_main_v11_apply, val_main_v10_apply]
  have e : idx_main_v10 (idx_main_v11 (ix3 b r q)) = ix2 b q := by
    funext a
    match a with
    | ⟨0, _⟩ => rfl
    | ⟨1, _⟩ => rfl
  rw [e]
  refine (Routing.gather_row gather_S32x2048_S128x1_S128x2048_1_0_n_n_0_1_12048 rfl rfl rfl rfl rfl (val_main_v7 (F := Ideal) x5) (val_main_v8 (F := Ideal) x2) b q (expR x2 b) (v4_at x2 h2 b) (by decide)).trans ?_
  rw [val_main_v7_apply]
  refine congrArg x5 (funext fun a => ?_)
  have he := (expR x2 b).isLt
  have hq := q.isLt
  match a with
  | ⟨0, _⟩ => rfl
  | ⟨1, _⟩ => refine Fin.ext ?_; show ((expR x2 b).val * 2048 + q.val) / 2048 % 32 = (expR x2 b).val; omega
  | ⟨2, _⟩ => refine Fin.ext ?_; show ((expR x2 b).val * 2048 + q.val) % 2048 = q.val; omega

theorem v41_at (b : Fin 128) (r : Fin 512) (q : Fin 4096) : val_main_v41 (F := Ideal) x2 x7 (ix3 b r q) = x7 (ix3 0 (expR x2 b) q) := by
  rw [val_main_v41_apply, val_main_v40_apply]
  have e : idx_main_v40 (idx_main_v41 (ix3 b r q)) = ix2 b q := by
    funext a
    match a with
    | ⟨0, _⟩ => rfl
    | ⟨1, _⟩ => rfl
  rw [e]
  refine (Routing.gather_row gather_S32x4096_S128x1_S128x4096_1_0_n_n_0_1_14096 rfl rfl rfl rfl rfl (val_main_v37 (F := Ideal) x7) (val_main_v38 (F := Ideal) x2) b q (expR x2 b) (v4_at x2 h2 b) (by decide)).trans ?_
  rw [val_main_v37_apply]
  refine congrArg x7 (funext fun a => ?_)
  have he := (expR x2 b).isLt
  have hq := q.isLt
  match a with
  | ⟨0, _⟩ => rfl
  | ⟨1, _⟩ => refine Fin.ext ?_; show ((expR x2 b).val * 4096 + q.val) / 4096 % 32 = (expR x2 b).val; omega
  | ⟨2, _⟩ => refine Fin.ext ?_; show ((expR x2 b).val * 4096 + q.val) % 4096 = q.val; omega

include h1

theorem v12_at (b : Fin 128) (r : Fin 512) (q : Fin 2048) : val_main_v12 (F := Ideal) x0 x1 x2 x4 x5 (ix3 b r q) = uR x0 x1 x2 x4 x5 b r q := by
  rw [val_main_v12_apply, val_main_v6_apply, v11_at x2 x5 h2]
  refine congrArg (fun s : EReal => s + x5 (ix3 0 (expR x2 b) q)) (Finset.sum_congr rfl fun k _ => ?_)
  have el : lidx_main_v6 (ix3 b r q) k = ix3 b r k := by
    funext a
    match a with
    | ⟨0, _⟩ => rfl
    | ⟨1, _⟩ => rfl
    | ⟨2, _⟩ => rfl
  have er : ridx_main_v6 (ix3 b r q) k = ix3 b k q := by
    funext a
    match a with
    | ⟨0, _⟩ => rfl
    | ⟨1, _⟩ => rfl
    | ⟨2, _⟩ => rfl
  rw [el, er, v2_at x0 x1 h1, v5_at x2 x4 h2]

theorem v13_at (b : Fin 128) (r : Fin 512) (q : Fin 1024) : val_main_v13 (F := Ideal) x0 x1 x2 x4 x5 (ix3 b r q) = uR x0 x1 x2 x4 x5 b r ⟨2 * q.val, by omega⟩ := by
  rw [← v12_at x0 x1 x2 x4 x5 h1 h2]
  unfold val_main_v13
  generalize val_main_v12 (F := Ideal) x0 x1 x2 x4 x5 = y
  pointwise

theorem v14_at (b : Fin 128) (r : Fin 512) (q : Fin 1024) : val_main_v14 (F := Ideal) x0 x1 x2 x4 x5 (ix3 b r q) = uR x0 x1 x2 x4 x5 b r ⟨2 * q.val + 1, by omega⟩ := by
  rw [← v12_at x0 x1 x2 x4 x5 h1 h2]
  unfold val_main_v14
  generalize val_main_v12 (F := Ideal) x0 x1 x2 x4 x5 = y
  pointwise
  exact congrArg (fun k => y (ix3 b r k)) (Fin.ext (Nat.add_comm _ _))

theorem v32_at (b : Fin 128) (r : Fin 512) (q : Fin 1024) : val_main_v32 (F := Ideal) x0 x1 x2 x4 x5 (ix3 b r q)
    = gate (uR x0 x1 x2 x4 x5 b r ⟨2 * q.val, by omega⟩) (uR x0 x1 x2 x4 x5 b r ⟨2 * q.val + 1, by omega⟩) := by
  rw [← v13_at x0 x1 x2 x4 x5 h1 h2, ← v14_at x0 x1 x2 x4 x5 h1 h2]
  unfold val_main_v32 val_main_v29 val_main_v31 val_main_v28 val_main_v26 val_main_v24 val_main_v23 val_main_v22 val_main_v20 val_main_v18 val_main_v16
  unfold gate
  generalize val_main_v13 (F := Ideal) x0 x1 x2 x4 x5 = g
  generalize val_main_v14 (F := Ideal) x0 x1 x2 x4 x5 = l
  unfold val_main_v15 val_main_v17 val_main_v19 val_main_v21 val_main_v25 val_main_v27 val_main_v30
  pointwise
  show min (g (ix3 b r q)) (Ideal.ofBits .f32 0x40E00000#32) * Ideal.div (Ideal.ofBits .f32 0x3F800000#32)
        (Ideal.ofBits .f32 0x3F800000#32 + Ideal.exp (-(Ideal.ofBits .f32 0x3FD9DB23#32 * min (g (ix3 b r q)) (Ideal.ofBits .f32 0x40E00000#32))))
      * (min (max (l (ix3 b r q)) (Ideal.ofBits .f32 0xC0E00000#32)) (Ideal.ofBits .f32 0x40E00000#32) + Ideal.ofBits .f32 0x3F800000#32) = _
  rw [Ideal.ofBits_one_f32, max_comm (l (ix3 b r q)), min_comm (max _ (l (ix3 b r q)))]
  rfl

theorem v42_at (b : Fin 128) (r : Fin 512) (c : Fin 4096) : val_main_v42 (F := Ideal) x0 x1 x2 x4 x5 x6 x7 (ix3 b r c) = yR x0 x1 x2 x4 x5 x6 x7 b r c := by
  rw [val_main_v42_apply, val_main_v36_apply, v41_at x2 x7 h2]
  refine congrArg (fun s : EReal => s + x7 (ix3 0 (expR x2 b) c)) (Finset.sum_congr rfl fun k _ => ?_)
  have el : lidx_main_v36 (ix3 b r c) k = ix3 b r k := by
    funext a
    match a with
    | ⟨0, _⟩ => rfl
    | ⟨1, _⟩ => rfl
    | ⟨2, _⟩ => rfl
  have er : ridx_main_v36 (ix3 b r c) k = ix3 b k c := by
    funext a
    match a with
    | ⟨0, _⟩ => rfl
    | ⟨1, _⟩ => rfl
    | ⟨2, _⟩ => rfl
  rw [el, er, v32_at x0 x1 x2 x4 x5 h1 h2, v35_at x2 x6 h2]

/-- The reference's result: the second product on the tiles that hold rows, zero on the rest. -/
theorem v53_at (b : Fin 128) (r : Fin 512) (c : Fin 4096) :
    val_main_v53 (F := Ideal) x0 x1 x2 x3 x4 x5 x6 x7 (ix2 (n0 := 65536) (n1 := 4096) ⟨512 * b.val + r.val, by omega⟩ c)
      = if (512#32 * BitVec.ofNat 32 b.val).slt (x3 (ix1 (0 : Fin 1))) then yR x0 x1 x2 x4 x5 x6 x7 b r c else 0 := by
  rw [val_main_v53_apply]
  have hb := b.isLt
  have hr := r.isLt
  have hc := c.isLt
  have ei : idx_main_v53 (ix2 (n0 := 65536) (n1 := 4096) ⟨512 * b.val + r.val, by omega⟩ c) = ix3 b r c := by
    funext a
    match a with
    | ⟨0, _⟩ => refine Fin.ext ?_; show ((512 * b.val + r.val) * 4096 + c.val) / 2097152 = b.val; omega
    | ⟨1, _⟩ => refine Fin.ext ?_; show ((512 * b.val + r.val) * 4096 + c.val) / 4096 % 512 = r.val; omega
    | ⟨2, _⟩ => refine Fin.ext ?_; show ((512 * b.val + r.val) * 4096 + c.val) % 4096 = c.val; omega
  rw [ei, val_main_v52_apply, v42_at x0 x1 x2 x4 x5 x6 x7 h1 h2, val_main_v50_apply, val_main_v49_apply, val_main_v48_apply, val_main_v45_apply, val_main_v47_apply,
    val_main_v43_apply, val_main_v44_apply, val_main_c_apply, val_main_v51_apply, val_main_cst_6_apply]
  have e46 : val_main_v46 (F := Ideal) x3 (idx_main_v47 (idx_main_v49 (idx_main_v50 (ix3 b r c)))) = x3 (ix1 (0 : Fin 1)) := by
    unfold val_main_v46
    exact congrArg x3 (funext fun a => match a with | ⟨0, _⟩ => Subsingleton.elim (α := Fin 1) _ _)
  rw [e46]
  show (if BitVec.ofBool ((BitVec.ofNat 32 b.val * 512#32).slt (x3 (ix1 (0 : Fin 1)))) = 1#1 then yR x0 x1 x2 x4 x5 x6 x7 b r c else Ideal.ofBits .f32 0x00000000#32) = _
  rw [Ideal.ofBits_zero_f32, BitVec.mul_comm]
  cases (512#32 * BitVec.ofNat 32 b.val).slt (x3 (ix1 (0 : Fin 1))) <;> rfl

end

end Cert.Reference8Ideal.Gmm

end
-- ==== Proof.GmmVal.lean ====
/- The grouped product's result at the extended reals: the kernel's is the reference's. -/
module

public import proofs.«01_k».proof.Proof.GmmPre
public import proofs.«01_k».proof.Proof.GmmRef

@[expose] public section

set_option maxRecDepth 16384

noncomputable section

namespace Cert.Kernel8Ideal.GmmVal

open Cert.Kernel8Ideal Cert.Kernel8Ideal.Gen
open Idealize.ShloMosaic Idealize.ShloMosaic.TcCoe Idealize.ShloMosaic.Tactic Idealize.SL.Sem
open Cert.Kernel8Ideal.Gmm hiding ix3
open Cert.Reference8Ideal.Gmm (tokR expR uR yR)

variable (m : (ℓ : Loc nD τ sig) → Buf (Elt Ideal) ℓ) (hok : ok0 (tbl m))

abbrev a0 (c : Dev nD) : S12288x4096.Idx → EReal := m ((c : Thread nD τ).loc main_arg0)
abbrev a1 (c : Dev nD) : S65536.Idx → BitVec 32 := m ((c : Thread nD τ).loc main_arg1)
abbrev a2 (c : Dev nD) : S128.Idx → BitVec 32 := m ((c : Thread nD τ).loc main_arg2)
abbrev a3 (c : Dev nD) : S1.Idx → BitVec 32 := m ((c : Thread nD τ).loc main_arg3)
abbrev a4 (c : Dev nD) : S1x32x4096x2048.Idx → EReal := m ((c : Thread nD τ).loc main_arg4)
abbrev a5 (c : Dev nD) : S1x32x2048.Idx → EReal := m ((c : Thread nD τ).loc main_arg5)
abbrev a6 (c : Dev nD) : S1x32x1024x4096.Idx → EReal := m ((c : Thread nD τ).loc main_arg6)
abbrev a7 (c : Dev nD) : S1x32x4096.Idx → EReal := m ((c : Thread nD τ).loc main_arg7)

/-- The first product's entry of a tile. -/
abbrev u (c : Dev nD) (T : Fin 128) (r : Fin 512) (q : Fin 2048) : EReal := uR (a0 m c) (a1 m c) (a2 m c) (a4 m c) (a5 m c) T r q
/-- The second product's entry of a tile. -/
abbrev y (c : Dev nD) (T : Fin 128) (r : Fin 512) (q : Fin 4096) : EReal := yR (a0 m c) (a1 m c) (a2 m c) (a4 m c) (a5 m c) (a6 m c) (a7 m c) T r q

/-! ## Numbers -/

theorem num_add {x z : EReal} (hx : x ≠ ⊤ ∧ x ≠ ⊥) (hz : z ≠ ⊤ ∧ z ≠ ⊥) : x + z ≠ ⊤ ∧ x + z ≠ ⊥ := by
  lift x to ℝ using hx
  lift z to ℝ using hz
  rw [← EReal.coe_add]
  exact ⟨EReal.coe_ne_top _, EReal.coe_ne_bot _⟩

theorem num_mul {x z : EReal} (hx : x ≠ ⊤ ∧ x ≠ ⊥) (hz : z ≠ ⊤ ∧ z ≠ ⊥) : x * z ≠ ⊤ ∧ x * z ≠ ⊥ := by
  lift x to ℝ using hx
  lift z to ℝ using hz
  rw [← EReal.coe_mul]
  exact ⟨EReal.coe_ne_top _, EReal.coe_ne_bot _⟩

theorem num_sum {n : ℕ} (f : Fin n → EReal) (h : ∀ k, f k ≠ ⊤ ∧ f k ≠ ⊥) : (∑ k, f k) ≠ ⊤ ∧ (∑ k, f k) ≠ ⊥ :=
  Finset.sum_induction f (fun x => x ≠ ⊤ ∧ x ≠ ⊥) (fun _ _ => num_add) ⟨EReal.zero_ne_top, EReal.zero_ne_bot⟩ fun k _ => h k

/-- A sum over the hidden columns, by the four row blocks. -/
theorem sum4 (f : Fin 1024 → EReal) : (∑ k, f k) = (∑ k : Fin 256, f ⟨256 * 0 + k.val, by omega⟩) + (∑ k : Fin 256, f ⟨256 * 1 + k.val, by omega⟩)
    + (∑ k : Fin 256, f ⟨256 * 2 + k.val, by omega⟩) + ∑ k : Fin 256, f ⟨256 * 3 + k.val, by omega⟩ := by
  refine (Fin.sum_univ_add (a := 768) (b := 256) f).trans (congrArg₂ (· + ·) ?_ rfl)
  refine (Fin.sum_univ_add (a := 512) (b := 256) fun k => f (Fin.castAdd 256 k)).trans (congrArg₂ (· + ·) ?_ rfl)
  refine (Fin.sum_univ_add (a := 256) (b := 256) fun k => f (Fin.castAdd 256 (Fin.castAdd 256 k))).trans (congrArg₂ (· + ·) ?_ rfl)
  refine Finset.sum_congr rfl fun k _ => congrArg f (Fin.ext ?_)
  show k.val = 256 * 0 + k.val
  omega

/-! ## The blocks -/

theorem tok_eq (c : Dev nD) (s : ℕ) (r : Fin 512) : tokA m c s r = tokR (a1 m c) (512 * s + r.val) := by
  refine Fin.ext ?_
  show ((a1 m c) (ix64 _)).toNat % 12288 = ((a1 m c) (ix1 _)).toNat % 12288
  refine congrArg (fun i => ((a1 m c) i).toNat % 12288) (funext fun a => ?_)
  match a with
  | ⟨0, _⟩ => rfl

theorem rows_at (c : Dev nD) (s : ℕ) (r : Fin 512) (k : Fin 4096) : rowsAt m c s (ix2 r k) = a0 m c (ix2 (tokR (a1 m c) (512 * s + r.val)) k) := by
  have e : rowsAt m c s (ix2 r k) = gath (tokA m c s) (V m c main_arg0 : XBuf Ideal) (ix2 r k) := by
    unfold rowsAt k0_pay1
    generalize gath (tokA m c s) (V m c main_arg0 : XBuf Ideal) = g
    pointwise
  rw [e, ← tok_eq]
  refine (congrFun (V_kept m c main_arg0 (by decide)) _).trans (congrArg (a0 m c) (funext fun a => ?_))
  match a with
  | ⟨0, _⟩ => rfl
  | ⟨1, _⟩ => rfl

section
variable (h2 : ∀ (c : Dev nD) i, (a2 m c i).toNat < 32)
include h2

theorem exp_eq (c : Dev nD) (t : Fin grid0.N) (T : Fin 128) (hT : T.val = t.val / 8) : (expAt (tbl m) (grid0.coords t)).toNat = (expR (a2 m c) T).val := by
  obtain rfl : c = 0 := Subsingleton.elim _ _
  have e : expAt (tbl m) (grid0.coords t) = a2 m 0 (ix1 T) := by
    refine (congrFun (V_kept m 0 main_arg2 (by decide)) _).trans (congrArg (a2 m 0) (funext fun a => ?_))
    match a with
    | ⟨0, _⟩ => exact Fin.ext ((coords0 t).1.trans hT.symm)
  rw [e]
  exact (Nat.mod_eq_of_lt (h2 0 _)).symm

theorem blk2_at (c : Dev nD) (t : Fin grid0.N) (T : Fin 128) (hT : T.val = t.val / 8) (k : Fin 4096) (p : Fin 512) (Q : Fin 2048) (hQ : Q.val = min (t.val % 8) 3 * 512 + p.val) :
    iblk m hok c 2 t (ix4 0 0 k p) = a4 m c (ix4 0 (expR (a2 m c) T) k Q) := by
  unfold iblk
  refine (View.read_apply _ _).trans ((congrFun (V_kept m c main_arg4 (by decide)) _).trans (congrArg (a4 m c) (funext fun a => ?_)))
  have hi := index2 (tbl m) (grid0.coords t)
  have he := exp_eq m h2 c t T hT
  have hj := (coords0 t).2
  match a with
  | ⟨0, _⟩ => refine Fin.ext ?_; show cc0_transform_3 Facts₀.k0_off1_inb Facts₀.numel1_S1 (tbl m) (grid0.coords t) 0 * 1 + 1 * 0 = 0; rw [hi]; rfl
  | ⟨1, _⟩ => refine Fin.ext ?_; show cc0_transform_3 Facts₀.k0_off1_inb Facts₀.numel1_S1 (tbl m) (grid0.coords t) 1 * 1 + 1 * 0 = (expR (a2 m c) T).val; rw [hi, ← he]; show (expAt (tbl m) (grid0.coords t)).toNat * 1 + 1 * 0 = _; omega
  | ⟨2, _⟩ => refine Fin.ext ?_; show cc0_transform_3 Facts₀.k0_off1_inb Facts₀.numel1_S1 (tbl m) (grid0.coords t) 2 * 4096 + 1 * k.val = k.val; rw [hi]; show 0 * 4096 + 1 * k.val = k.val; omega
  | ⟨3, _⟩ => refine Fin.ext ?_; show cc0_transform_3 Facts₀.k0_off1_inb Facts₀.numel1_S1 (tbl m) (grid0.coords t) 3 * 512 + 1 * p.val = Q.val; rw [hi]; show min ((grid0.coords t 1).val) 3 * 512 + 1 * p.val = Q.val; rw [hj]; omega

theorem blk4_at (c : Dev nD) (t : Fin grid0.N) (T : Fin 128) (hT : T.val = t.val / 8) (k : Fin 1024) (p : Fin 1024) (Q : Fin 4096) (hQ : Q.val = (t.val % 8 - 4) * 1024 + p.val) :
    iblk m hok c 4 t (ix4 0 0 k p) = a6 m c (ix4 0 (expR (a2 m c) T) k Q) := by
  unfold iblk
  refine (View.read_apply _ _).trans ((congrFun (V_kept m c main_arg6 (by decide)) _).trans (congrArg (a6 m c) (funext fun a => ?_)))
  have hi := index4 (tbl m) (grid0.coords t)
  have he := exp_eq m h2 c t T hT
  have hj := (coords0 t).2
  match a with
  | ⟨0, _⟩ => refine Fin.ext ?_; show cc0_transform_5 Facts₀.k0_off1_inb Facts₀.numel1_S1 (tbl m) (grid0.coords t) 0 * 1 + 1 * 0 = 0; rw [hi]; rfl
  | ⟨1, _⟩ => refine Fin.ext ?_; show cc0_transform_5 Facts₀.k0_off1_inb Facts₀.numel1_S1 (tbl m) (grid0.coords t) 1 * 1 + 1 * 0 = (expR (a2 m c) T).val; rw [hi, ← he]; show (expAt (tbl m) (grid0.coords t)).toNat * 1 + 1 * 0 = _; omega
  | ⟨2, _⟩ => refine Fin.ext ?_; show cc0_transform_5 Facts₀.k0_off1_inb Facts₀.numel1_S1 (tbl m) (grid0.coords t) 2 * 1024 + 1 * k.val = k.val; rw [hi]; show 0 * 1024 + 1 * k.val = k.val; omega
  | ⟨3, _⟩ => refine Fin.ext ?_; show cc0_transform_5 Facts₀.k0_off1_inb Facts₀.numel1_S1 (tbl m) (grid0.coords t) 3 * 1024 + 1 * p.val = Q.val; rw [hi]; show ((grid0.coords t 1).val - 4) * 1024 + 1 * p.val = Q.val; rw [hj]; omega

omit h2 in
theorem V_v8 (c : Dev nD) (e : Fin 32) (q : Fin 2048) : (V m c main_v8 : S1x32x1x2048.Idx → EReal) (ix4 0 e 0 q) = a5 m c (ix3 0 e q) := by
  have h : (V m c main_v8 : S1x32x1x2048.Idx → EReal) = shapeCast S1x32x1x2048 (a5 m c) Facts₀.shapeCasts_S1x32x2048_S1x32x1x2048 := by
    show StableHlo.after hostOps0 _ _ = _
    after_results
    rfl
  rw [h]
  pointwise

omit h2 in
theorem V_v9 (c : Dev nD) (e : Fin 32) (q : Fin 4096) : (V m c main_v9 : S1x32x1x4096.Idx → EReal) (ix4 0 e 0 q) = a7 m c (ix3 0 e q) := by
  have h : (V m c main_v9 : S1x32x1x4096.Idx → EReal) = shapeCast S1x32x1x4096 (a7 m c) Facts₀.shapeCasts_S1x32x4096_S1x32x1x4096 := by
    show StableHlo.after hostOps0 _ _ = _
    after_results
    rfl
  rw [h]
  pointwise

theorem blk3_at (c : Dev nD) (t : Fin grid0.N) (T : Fin 128) (hT : T.val = t.val / 8) (p : Fin 512) (Q : Fin 2048) (hQ : Q.val = min (t.val % 8) 3 * 512 + p.val) :
    iblk m hok c 3 t (ix4 0 0 0 p) = a5 m c (ix3 0 (expR (a2 m c) T) Q) := by
  rw [← V_v8]
  unfold iblk
  refine (View.read_apply _ _).trans (congrArg (V m c main_v8 : S1x32x1x2048.Idx → EReal) (funext fun a => ?_))
  have hi := index3 (tbl m) (grid0.coords t)
  have he := exp_eq m h2 c t T hT
  have hj := (coords0 t).2
  match a with
  | ⟨0, _⟩ => refine Fin.ext ?_; show cc0_transform_4 Facts₀.k0_off1_inb Facts₀.numel1_S1 (tbl m) (grid0.coords t) 0 * 1 + 1 * 0 = 0; rw [hi]; rfl
  | ⟨1, _⟩ => refine Fin.ext ?_; show cc0_transform_4 Facts₀.k0_off1_inb Facts₀.numel1_S1 (tbl m) (grid0.coords t) 1 * 1 + 1 * 0 = (expR (a2 m c) T).val; rw [hi, ← he]; show (expAt (tbl m) (grid0.coords t)).toNat * 1 + 1 * 0 = _; omega
  | ⟨2, _⟩ => refine Fin.ext ?_; show cc0_transform_4 Facts₀.k0_off1_inb Facts₀.numel1_S1 (tbl m) (grid0.coords t) 2 * 1 + 1 * 0 = 0; rw [hi]; rfl
  | ⟨3, _⟩ => refine Fin.ext ?_; show cc0_transform_4 Facts₀.k0_off1_inb Facts₀.numel1_S1 (tbl m) (grid0.coords t) 3 * 512 + 1 * p.val = Q.val; rw [hi]; show min ((grid0.coords t 1).val) 3 * 512 + 1 * p.val = Q.val; rw [hj]; omega

theorem blk5_at (c : Dev nD) (t : Fin grid0.N) (T : Fin 128) (hT : T.val = t.val / 8) (p : Fin 1024) (Q : Fin 4096) (hQ : Q.val = (t.val % 8 - 4) * 1024 + p.val) :
    iblk m hok c 5 t (ix4 0 0 0 p) = a7 m c (ix3 0 (expR (a2 m c) T) Q) := by
  rw [← V_v9]
  unfold iblk
  refine (View.read_apply _ _).trans (congrArg (V m c main_v9 : S1x32x1x4096.Idx → EReal) (funext fun a => ?_))
  have hi := index5 (tbl m) (grid0.coords t)
  have he := exp_eq m h2 c t T hT
  have hj := (coords0 t).2
  match a with
  | ⟨0, _⟩ => refine Fin.ext ?_; show cc0_transform_6 Facts₀.k0_off1_inb Facts₀.numel1_S1 (tbl m) (grid0.coords t) 0 * 1 + 1 * 0 = 0; rw [hi]; rfl
  | ⟨1, _⟩ => refine Fin.ext ?_; show cc0_transform_6 Facts₀.k0_off1_inb Facts₀.numel1_S1 (tbl m) (grid0.coords t) 1 * 1 + 1 * 0 = (expR (a2 m c) T).val; rw [hi, ← he]; show (expAt (tbl m) (grid0.coords t)).toNat * 1 + 1 * 0 = _; omega
  | ⟨2, _⟩ => refine Fin.ext ?_; show cc0_transform_6 Facts₀.k0_off1_inb Facts₀.numel1_S1 (tbl m) (grid0.coords t) 2 * 1 + 1 * 0 = 0; rw [hi]; rfl
  | ⟨3, _⟩ => refine Fin.ext ?_; show cc0_transform_6 Facts₀.k0_off1_inb Facts₀.numel1_S1 (tbl m) (grid0.coords t) 3 * 1024 + 1 * p.val = Q.val; rw [hi]; show ((grid0.coords t 1).val - 4) * 1024 + 1 * p.val = Q.val; rw [hj]; omega

/-! ## The products -/

theorem u_at (c : Dev nD) (t : Fin grid0.N) (T : Fin 128) (hT : T.val = t.val / 8) (hj : t.val % 8 < 4) (r p : Fin 512) (Q : Fin 2048) (hQ : Q.val = t.val % 8 * 512 + p.val) :
    k0_pay8 (rowsAt m c (t.val / 8)) (iblk m hok c 2 t) (iblk m hok c 3 t) (ix2 r p) = u m c T r Q := by
  have hQ' : Q.val = min (t.val % 8) 3 * 512 + p.val := by rw [hQ]; omega
  refine (pay8_apply _ _ _ r p).trans ?_
  refine congrArg₂ (fun a b : EReal => a + b) (Finset.sum_congr rfl fun k _ => ?_) (blk3_at m hok h2 c t T hT p Q hQ')
  refine congrArg₂ (fun a b : EReal => a * b) ?_ (blk2_at m hok h2 c t T hT k p Q hQ')
  rw [rows_at, hT]

section
variable (f0 : ∀ (c : Dev nD) i, a0 m c i ≠ ⊤ ∧ a0 m c i ≠ ⊥) (f4 : ∀ (c : Dev nD) i, a4 m c i ≠ ⊤ ∧ a4 m c i ≠ ⊥) (f5 : ∀ (c : Dev nD) i, a5 m c i ≠ ⊤ ∧ a5 m c i ≠ ⊥)
include f0 f4 f5

omit h2 in
theorem u_num (c : Dev nD) (T : Fin 128) (r : Fin 512) (q : Fin 2048) : u m c T r q ≠ ⊤ ∧ u m c T r q ≠ ⊥ :=
  num_add (num_sum _ fun _ => num_mul (f0 c _) (f4 c _)) (f5 c _)

/-- The activations of point `8 T + j`, in the hidden columns from `256 j`. -/
theorem act_at (c : Dev nD) (t : Fin grid0.N) (T : Fin 128) (hT : T.val = t.val / 8) (j : Fin 4) (hj : t.val % 8 = j.val) (r : Fin 512) (k : Fin 256) :
    actAt m hok c t (ix3 0 r k) = gate (u m c T r ⟨2 * (256 * j.val + k.val), by omega⟩) (u m c T r ⟨2 * (256 * j.val + k.val) + 1, by omega⟩) := by
  have h4 : t.val % 8 < 4 := by omega
  have e : ∀ (p : Fin 512) (Q : Fin 2048), Q.val = t.val % 8 * 512 + p.val → k0_pay8 (rowsAt m c (t.val / 8)) (iblk m hok c 2 t) (iblk m hok c 3 t) (ix2 r p) = u m c T r Q :=
    fun p Q hQ => u_at m hok h2 c t T hT h4 r p Q hQ
  unfold actAt
  refine (actP_apply _ _ _ r k fun p => ?_).trans ?_
  · rw [e p ⟨t.val % 8 * 512 + p.val, by omega⟩ rfl]
    exact u_num m f0 f4 f5 c T r _
  · rw [e _ ⟨2 * (256 * j.val + k.val), by omega⟩ (by show 2 * (256 * j.val + k.val) = t.val % 8 * 512 + 2 * k.val; omega),
      e _ ⟨2 * (256 * j.val + k.val) + 1, by omega⟩ (by show 2 * (256 * j.val + k.val) + 1 = t.val % 8 * 512 + (2 * k.val + 1); omega)]

omit h2 f0 f4 f5 in
theorem wrow_at (w : Vec Ideal S1x1x1024x1024 .f32) (j : Fin 4) (k : Fin 256) (q : Fin 1024) : wrow w j (ix4 0 0 k q) = w (ix4 0 0 ⟨256 * j.val + k.val, by omega⟩ q) := by
  refine congrArg w (funext fun a => ?_)
  match a with
  | ⟨0, _⟩ => rfl
  | ⟨1, _⟩ => rfl
  | ⟨2, _⟩ => refine Fin.ext ?_; show 256 * j.val + 1 * k.val = 256 * j.val + k.val; omega
  | ⟨3, _⟩ => refine Fin.ext ?_; show 0 + 1 * q.val = q.val; omega

omit h2 f0 f4 f5 in
theorem on_iff (c : Dev nD) (T : Fin 128) : onB m c T.val ↔ (512#32 * BitVec.ofNat 32 T.val).slt (a3 m c (ix1 (0 : Fin 1))) = true := by
  have e : (a3 m c (ix1 (0 : Fin 1))) = (m ((c : Thread nD τ).loc main_arg3) : S1.Idx → BitVec 32) iz1 := congrArg (a3 m c) (funext fun a => match a with | ⟨0, _⟩ => rfl)
  rw [e]
  constructor
  · rintro ⟨h, hv⟩
    rw [V_v6] at hv
    split at hv
    · assumption
    · exact absurd hv (show ¬ ((0#32 : BitVec 32) = 1#32) by decide)
  · intro h
    refine ⟨T.isLt, ?_⟩
    rw [V_v6]
    exact if_pos h

/-- The block the kernel leaves at point `t`. -/
theorem out_at (c : Dev nD) (t : Fin grid0.N) (T : Fin 128) (hT : T.val = t.val / 8) (r : Fin 512) (q : Fin 1024) (Q : Fin 4096) (hQ : Q.val = (t.val % 8 - 4) * 1024 + q.val) :
    outAt m hok c t (ix2 r q) = if (512#32 * BitVec.ofNat 32 T.val).slt (a3 m c (ix1 (0 : Fin 1))) then y m c T r Q else 0 := by
  by_cases h : onB m c T.val
  · rw [if_pos ((on_iff m c T).1 h)]
    rw [hT] at h
    unfold outAt
    rw [if_pos h]
    refine (outP_apply _ _ _ _ _ _ _ _ _ r q).trans ?_
    have s : ∀ j : Fin 4, (∑ k : Fin 256, actAt m hok c (ptOf t j) (ix3 0 r k) * wrow (iblk m hok c 4 t) j (ix4 0 0 k q))
        = ∑ k : Fin 256, (fun K : Fin 1024 => gate (u m c T r ⟨2 * K.val, by omega⟩) (u m c T r ⟨2 * K.val + 1, by omega⟩) * a6 m c (ix4 0 (expR (a2 m c) T) K Q)) ⟨256 * j.val + k.val, by omega⟩ :=
      fun j => Finset.sum_congr rfl fun k _ => by
        have hp : (ptOf t j).val = 8 * (t.val / 8) + j.val := rfl
        refine congrArg₂ (fun a b : EReal => a * b) (act_at m hok h2 f0 f4 f5 c (ptOf t j) T (by rw [hp, hT]; omega) j (by rw [hp]; omega) r k) ?_
        refine (wrow_at _ j k q).trans (blk4_at m hok h2 c t T hT _ q Q hQ)
    rw [s 0, s 1, s 2, s 3, blk5_at m hok h2 c t T hT q Q hQ]
    refine Eq.trans ?_ (congrArg (fun a : EReal => a + a7 m c (ix3 0 (expR (a2 m c) T) Q)) (sum4 (fun K : Fin 1024 => gate (u m c T r ⟨2 * K.val, by omega⟩) (u m c T r ⟨2 * K.val + 1, by omega⟩) * a6 m c (ix4 0 (expR (a2 m c) T) K Q)))).symm
    rw [add_comm _ (a7 m c (ix3 0 (expR (a2 m c) T) Q))]
    simp only [add_assoc]
    rfl
  · rw [if_neg fun h' => h ((on_iff m c T).2 h')]
    rw [hT] at h
    unfold outAt
    rw [if_neg h]
    show Ideal.ofBits .f32 0x00000000#32 = _
    exact Ideal.ofBits_zero_f32

/-- What the kernel leaves in the result's buffer. -/
def G (c : Dev nD) : S65536x4096.Idx → EReal :=
  Cert.Reference8Ideal.Read.val_main_v53 (F := Ideal) (a0 m c) (a1 m c) (a2 m c) (a3 m c) (a4 m c) (a5 m c) (a6 m c) (a7 m c)

omit h2 f0 f4 f5 m hok in
theorem mem_blk (x : Fin 2 → ℕ) (hb : ∀ a, (x a + 1) * S512x1024.size a ≤ S65536x4096.size a) (i : S65536x4096.Idx)
    (g0 : x 0 * 512 ≤ (i 0).val ∧ (i 0).val < x 0 * 512 + 512) (g1 : x 1 * 1024 ≤ (i 1).val ∧ (i 1).val < x 1 * 1024 + 1024) :
    i ∈ ((View.whole main_v10).slice (Rect.block (s := S65536x4096) S512x1024.size x hb)).set := by
  rw [View.set_slice_whole, Rect.mem_set_unit]
  intro a
  match a with
  | ⟨0, _⟩ => exact g0
  | ⟨1, _⟩ => exact g1

theorem arr (h1 : ∀ (c : Dev nD) i, (a1 m c i).toNat < 12288) (c : Dev nD) : (dats m hok 0 c).arrAt 6 (cfgA m hok).N = G m c := by
  have hN : grid0.N = 1024 := N_0
  refine (dats m hok 0 c).arrAt_eq_of_cover 6 (G m c) (fun t hfl => ?_) fun i => ?_
  · have hf : 4 ≤ t.val % 8 := of_decide_eq_true ((flush6 m hok t).symm.trans hfl)
    have ht : t.val < 1024 := t_lt t
    refine (congrArg (((cfgA m hok).win 6).cut (grid0.coords t)) (after0_6 m hok c t)).trans ?_
    refine funext fun (z : S512x1024.Idx) => ?_
    show outAt m hok c t z = G m c ((((cfgA m hok).win 6).blk t).view.emb z)
    have hr : (z 0).val < 512 := (z 0).isLt
    have hq : (z 1).val < 1024 := (z 1).isLt
    obtain ⟨i0, i1⟩ := index6 t
    have ei : ((((cfgA m hok).win 6).blk t).view.emb z : S65536x4096.Idx) = ix2 ⟨512 * (t.val / 8) + (z 0).val, by omega⟩ ⟨(t.val % 8 - 4) * 1024 + (z 1).val, by omega⟩ :=
      funext fun a => match a with
        | ⟨0, _⟩ => Fin.ext ((congrArg (· * 512 + 1 * (z 0).val) i0).trans (by show t.val / 8 * 512 + 1 * (z 0).val = 512 * (t.val / 8) + (z 0).val; omega))
        | ⟨1, _⟩ => Fin.ext ((congrArg (· * 1024 + 1 * (z 1).val) i1).trans (by show (t.val % 8 - 4) * 1024 + 1 * (z 1).val = (t.val % 8 - 4) * 1024 + (z 1).val; omega))
    have ez : z = ix2 (z 0) (z 1) := funext fun a => match a with
      | ⟨0, _⟩ => rfl
      | ⟨1, _⟩ => rfl
    rw [ei]
    refine (congrArg (outAt m hok c t) ez).trans ((out_at m hok h2 f0 f4 f5 c t ⟨t.val / 8, by omega⟩ rfl (z 0) (z 1) ⟨(t.val % 8 - 4) * 1024 + (z 1).val, by omega⟩ rfl).trans ?_)
    exact (Cert.Reference8Ideal.Gmm.v53_at _ _ _ _ _ _ _ _ (h1 c) (h2 c) ⟨t.val / 8, by omega⟩ (z 0) _).symm
  · have hi0 : (i (0 : Fin 2)).val < 65536 := (i (0 : Fin 2)).isLt
    have hi1 : (i (1 : Fin 2)).val < 4096 := (i (1 : Fin 2)).isLt
    have ht : (i (0 : Fin 2)).val / 512 * 8 + 4 + (i (1 : Fin 2)).val / 1024 < grid0.N := by rw [hN]; omega
    refine ⟨⟨_, ht⟩, (flush6 m hok ⟨_, ht⟩).trans (decide_eq_true (by show 4 ≤ ((i (0 : Fin 2)).val / 512 * 8 + 4 + (i (1 : Fin 2)).val / 1024) % 8; omega)), ?_⟩
    obtain ⟨i0, i1⟩ := index6 ⟨_, ht⟩
    refine mem_blk (cc0_transform_7 (grid0.coords ⟨_, ht⟩)) (hinb0_6 (grid0.coords ⟨_, ht⟩)) i ⟨?_, ?_⟩ ⟨?_, ?_⟩
    · rw [i0]; dsimp only; omega
    · rw [i0]; dsimp only; omega
    · rw [i1]; dsimp only; omega
    · rw [i1]; dsimp only; omega

include hok in
theorem value (h1 : ∀ (c : Dev nD) i, (a1 m c i).toNat < 12288) (ρ : Dev nD → PrngReg) : θ_run defs (onTc (τ := τ) (main (F := Ideal))) ⟨m, fun _ => 0, ρ⟩ fun r => ∀ c : Dev nD,
    r.2.mem ((c.tc : Thread nD τ).loc main_v10) = G m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨((h.1.1 c).1 6).trans (arr m hok h2 f0 f4 f5 h1 c), h.2.1 c⟩) (θ_run_and (run_main m hok ρ h1) (frame m hok ρ h1))

end
end

end Cert.Kernel8Ideal.GmmVal

namespace Cert

open Idealize.ShloMosaic Idealize.ShloMosaic.TcCoe Idealize.SL.Sem

theorem algebraic8 : Cert.algebraic_Kernel8Ideal_Reference8Ideal_pre_rows_in_range_finite := by
  intro m ρ m' ρ' hpre hagree
  have hp := fun c => Cert.Gmm.finite_pre _ _ _ _ _ _ _ _ (hpre c)
  refine ⟨_, Kernel8Ideal.GmmVal.value m (Cert.Gmm.ok_tbl m fun c => (hp c).1.2) (fun c => (hp c).1.2) (fun c => (hp c).2.1) (fun c => (hp c).2.2.1) (fun c => (hp c).2.2.2) (fun c => (hp c).1.1) ρ, ?_⟩
  refine (θ_run Cert.Reference8Ideal.defs _ _).mono (fun _ h c => ⟨(h c).1.trans ?_, (h c).2⟩) (Cert.Reference8Ideal.Value.run (F := Ideal) m' ρ')
  refine (Cert.Reference8Ideal.Read.val_main_v53_eq m' c).trans ?_
  obtain ⟨e0, e1, e2, e3, e4, e5, e6, e7⟩ := hagree c
  rw [e0, e1, e2, e3, e4, e5, e6, e7]
  rfl

end Cert

end
-- ==== Proof.GmmBits.lean ====
/- The kernel's frame at the machine's floats: the program is the idealized one's text, so its run is that one's. -/
module

public import proofs.«01_k».proof.Proof.GmmPre
public import proofs.«01_k».proof.Proof.Gen.Kernel8.Skeleton

@[expose] public section

set_option maxRecDepth 16384

noncomputable section

namespace Cert.Gmm

open Idealize.ShloMosaic Idealize.ShloMosaic.TcCoe Idealize.SL.Sem

/-- The two programs have one body table, -/
theorem defs₀_eq : Cert.Kernel8.defs₀ (F := Bits) = Cert.Kernel8Ideal.defs₀ (F := Bits) := by
  unfold Cert.Kernel8.defs₀ Cert.Kernel8Ideal.defs₀
  refine congrArg Defs.onTc (funext fun l => ?_)
  match l with
  | (0 : Fin 1) => exact funext fun (t, s) => rfl

/-- the same pipelines, -/
theorem pcfgs_eq : Cert.Kernel8.pcfgs (F := Bits) = Cert.Kernel8Ideal.pcfgs (F := Bits) := by
  funext p
  match p with
  | (0 : Fin 1) => rfl

/-- so the same table of all labels, -/
theorem defs_eq : Cert.Kernel8.defs (F := Bits) = Cert.Kernel8Ideal.defs (F := Bits) := by
  unfold Cert.Kernel8.defs Cert.Kernel8Ideal.defs
  exact congrArg (Pipeline.defs Cert.Kernel8Ideal.pcfgs) defs₀_eq

set_option cleanup.letToHave false in
set_option maxHeartbeats 2000000 in
/-- and the same host program. -/
theorem main_eq : Cert.Kernel8.main (F := Bits) = Cert.Kernel8Ideal.main (F := Bits) := rfl

/-- The kernel's frame, at the machine's floats. -/
theorem kernel8 : Cert.quiescent_Kernel8 := by
  intro m ρ h
  have hr := fun c => range_pre _ _ _ _ _ _ _ _ (h c)
  have k := Cert.Kernel8Ideal.Gmm.frame (F := Bits) m (ok_tbl (F := Bits) m fun c => (hr c).2) ρ fun c => (hr c).1
  exact (congrArg₂ (fun D M => θ_run D (onTc M) ⟨m, fun _ => 0, ρ⟩ _) defs_eq main_eq).mpr k

end Cert.Gmm

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Mat2
public import proofs.«01_k».proof.Proof.Mat3
public import proofs.«01_k».proof.Proof.Mat4
public import proofs.«01_k».proof.Proof.Mat5
public import proofs.«01_k».proof.Proof.Mat6
public import proofs.«01_k».proof.Proof.Ln7
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_rows_in_range
public import proofs.«01_k».proof.Proof.Gen.Pre_rows_in_range_finite
public import proofs.«01_k».proof.Proof.GmmVal
public import proofs.«01_k».proof.Proof.GmmBits
public import Idealize.ShloMosaic.Lib.Quiescent
public import Idealize.ShloMosaic.Adequacy
public import Idealize.ShloMosaic.Init

@[expose] public section

noncomputable section

namespace Cert.Proof

open Idealize.ShloMosaic Idealize.SL.Sem Cert.Kernel2

/-- The reference 2 runs, leaves its arguments and the semaphores as they were. -/
theorem reference2 : Cert.quiescent_Reference2Ideal := fun m ρ _ =>
  (θ_run Cert.Reference2Ideal.defs _ _).mono (fun r h => ⟨fun c => (h c).2.2.2, sem_eq_zero_of_no_sems (by decide) r.2⟩) (Cert.Reference2Ideal.Value.run (F := Ideal) m ρ)

/-- The reference 3 runs, leaves its arguments and the semaphores as they were. -/
theorem reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The reference 4 runs, leaves its arguments and the semaphores as they were. -/
theorem reference4 : Cert.quiescent_Reference4Ideal := fun m ρ _ =>
  (θ_run Cert.Reference4Ideal.defs _ _).mono (fun r h => ⟨fun c => (h c).2.2.2, sem_eq_zero_of_no_sems (by decide) r.2⟩) (Cert.Reference4Ideal.Value.run (F := Ideal) m ρ)

/-- The reference 5 runs, leaves its arguments and the semaphores as they were. -/
theorem reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The reference 6 runs, leaves its arguments and the semaphores as they were. -/
theorem reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The reference 7 runs, leaves its arguments and the semaphores as they were. -/
theorem reference7 : Cert.quiescent_Reference7Ideal := fun m ρ _ =>
  (θ_run Cert.Reference7Ideal.defs _ _).mono (fun r h => ⟨fun c => (h c).2.2, sem_eq_zero_of_no_sems (by decide) r.2⟩) (Cert.Reference7Ideal.Value.run (F := Ideal) m ρ)

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_rows_in_range.Gen.facts, Cert.Pre_rows_in_range_finite.Gen.facts,
  fun m ρ _ => Cert.Kernel2.Gen.frame m ρ, fun m ρ _ => Cert.Kernel2Ideal.Gen.frame m ρ, reference2, fun m ρ _ => Cert.Kernel3.Gen.frame m ρ, fun m ρ _ => Cert.Kernel3Ideal.Gen.frame m ρ, reference3, fun m ρ _ => Cert.Kernel4.Gen.frame m ρ, fun m ρ _ => Cert.Kernel4Ideal.Gen.frame m ρ, reference4, fun m ρ _ => Cert.Kernel5.Gen.frame m ρ, fun m ρ _ => Cert.Kernel5Ideal.Gen.frame m ρ, reference5, fun m ρ _ => Cert.Kernel6.Gen.frame m ρ, fun m ρ _ => Cert.Kernel6Ideal.Gen.frame m ρ, reference6, fun m ρ _ => Cert.Kernel7.Gen.frame m ρ, fun m ρ _ => Cert.Kernel7Ideal.Gen.frame m ρ, reference7,
  Cert.Gmm.kernel8, Cert.Gmm.kernel8Ideal, Cert.Gmm.kernel8Ideal_finite, Cert.Gmm.reference8, Cert.Gmm.reference8_finite,
  trivial, algebraic2, trivial, algebraic3, trivial, algebraic4, trivial, algebraic5, trivial, algebraic6, trivial, algebraic7, trivial, algebraic8⟩

end Cert.Proof

end
